-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_input [hPre_finite_input : Cert.Pre_finite_input.Facts] (m : (ℓ : Loc Cert.KernelIdeal.nD Cert.KernelIdeal.τ Cert.KernelIdeal.sig) → Buf (Elt Ideal) ℓ) : Prop :=
  ∀ c : Dev Cert.KernelIdeal.nD,
    (Cert.Pre_finite_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_input [hPre_finite_input : Cert.Pre_finite_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_input [hKernelIdeal : Cert.KernelIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_input m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_input [hReferenceIdeal : Cert.ReferenceIdeal.Facts] [hPre_finite_input : Cert.Pre_finite_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_input [hKernelIdeal : Cert.KernelIdeal.Facts] [hReferenceIdeal : Cert.ReferenceIdeal.Facts] [hPre_finite_input : Cert.Pre_finite_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_input m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_input : Cert.Pre_finite_input.Facts),
    quiescent_Kernel (hKernel := hKernel)
    ∧ quiescent_KernelIdeal (hKernelIdeal := hKernelIdeal)
    ∧ quiescent_KernelIdeal_pre_finite_input (hKernelIdeal := hKernelIdeal) (hPre_finite_input := hPre_finite_input)
    ∧ quiescent_ReferenceIdeal (hReferenceIdeal := hReferenceIdeal)
    ∧ quiescent_ReferenceIdeal_pre_finite_input (hReferenceIdeal := hReferenceIdeal) (hPre_finite_input := hPre_finite_input)
    ∧ preserves_Kernel_KernelIdeal
    ∧ algebraic_KernelIdeal_ReferenceIdeal_pre_finite_input (hKernelIdeal := hKernelIdeal) (hReferenceIdeal := hReferenceIdeal) (hPre_finite_input := hPre_finite_input)
-- ==== Pre_finite_input.lean ====
abbrev S16384x64 : Shape := ⟨2, ![16384, 64]⟩
abbrev S8192x64 : Shape := ⟨2, ![8192, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S8192x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  main_v3
-- ==== Kernel.lean ====
abbrev S16384x64 : Shape := ⟨2, ![16384, 64]⟩
abbrev S8192x64 : Shape := ⟨2, ![8192, 64]⟩
abbrev S16384x8192 : Shape := ⟨2, ![16384, 8192]⟩
abbrev S1x1 : Shape := ⟨2, ![1, 1]⟩
abbrev S_ : Shape := ⟨0, ![]⟩
abbrev S256x64 : Shape := ⟨2, ![256, 64]⟩
abbrev S256x8192 : Shape := ⟨2, ![256, 8192]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S1x256x64 : Shape := ⟨3, ![1, 256, 64]⟩
abbrev S1 : Shape := ⟨1, ![1]⟩
abbrev S1x1x1 : Shape := ⟨3, ![1, 1, 1]⟩

abbrev nBuf : Space → Nat
  | .hbm => 6
  | .vmem => 7
  | .smem => 2
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x8192, .f32⟩
  | .hbm, ⟨3, _⟩ => ⟨S16384x64, .f32⟩
  | .hbm, ⟨4, _⟩ => ⟨S1x1, .f32⟩
  | .hbm, ⟨5, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S8192x64, .f32⟩
  | .local _ .vmem, ⟨3, _⟩ => ⟨S256x8192, .f32⟩
  | .local _ .vmem, ⟨4, _⟩ => ⟨S256x8192, .f32⟩
  | .local _ .vmem, ⟨5, _⟩ => ⟨S256x64, .f32⟩
  | .local _ .vmem, ⟨6, _⟩ => ⟨S256x64, .f32⟩
  | .local _ .smem, ⟨0, _⟩ => ⟨S1x1, .f32⟩
  | .local _ .smem, ⟨1, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_2 : Ref sig .tc := ⟨.hbm, 2, rfl⟩
abbrev main_v0_1 : Ref sig .tc := ⟨.hbm, 3, rfl⟩
abbrev main_call0_v0_2 : Ref sig .tc := ⟨.hbm, 4, rfl⟩
abbrev main_v0_0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v44 : BitVec 1 := Scalar.cmpi .eq arg0 c63_i32
  let v45 : BitVec 32 := Scalar.extui v44
  let c0_i32_21 : BitVec 32 := 0#32
  let v46 : BitVec 1 := Scalar.cmpi .ne v45 c0_i32_21
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S64x8192 : Shape := ⟨2, ![64, 8192]⟩
abbrev S16384x2 : Shape := ⟨2, ![16384, 2]⟩

abbrev nBuf : Space → Nat
  | .hbm => 65
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S64x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S16384x8192, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S_, .f32⟩
  | .hbm, ⟨25, _⟩ => ⟨S16384x8192, .f32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S_, .i32⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S16384x1, .i32⟩
  | .hbm, ⟨42, _⟩ => ⟨S16384x1, .i32⟩
  | .hbm, ⟨43, _⟩ => ⟨S16384x2, .i32⟩
  | .hbm, ⟨44, _⟩ => ⟨S_, .f32⟩
  | .hbm, ⟨45, _⟩ => ⟨S16384, .f32⟩
  | .hbm, ⟨46, _⟩ => ⟨S16384x8192, .f32⟩
  | .hbm, ⟨47, _⟩ => ⟨S16384x64, .f32⟩
  | .hbm, ⟨48, _⟩ => ⟨S16384x64, .f32⟩
  | .hbm, ⟨49, _⟩ => ⟨S16384x64, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16384x64, .f32⟩
  | .hbm, ⟨55, _⟩ => ⟨S16384x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S16384x64, .f32⟩
  | .hbm, ⟨64, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Proof.ReferenceRun.lean ====
/-
The reference as a list of host operations, and what it leaves in its three results.
-/
module

public import proofs.«01_k».proof.Proof.Gen.ReferenceIdeal
public import Idealize.ShloMosaic.Lib.StableHlo.Run

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The rows and the columns of the scattered ones, side by side. -/
def fn_concatenate : (⟨S16384x1, .i32⟩ : BufTy).Contents (Elt F) → (⟨S16384x1, .i32⟩ : BufTy).Contents (Elt F) → (⟨S16384x2, .i32⟩ : BufTy).Contents (Elt F) :=
  fun a b => concatenate S16384x2 1 [⟨S16384x1, a⟩, ⟨S16384x1, b⟩] concatenates_S16384x1_S16384x1_S16384x2_d1

/-- The least value of each row, the first result of the arg-min. -/
def fn_argmin_value : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .f32⟩ : BufTy).Contents (Elt F) :=
  fun x y u v j => (Host.argReduce reducer_argmin_f32_i32 x y u v reducesTo_S16384x8192_S16384_d1 h_S_ j).1

/-- The column of the least value of each row, the second result of the arg-min. -/
def fn_argmin_index : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .i32⟩ : BufTy).Contents (Elt F) :=
  fun x y u v j => (Host.argReduce reducer_argmin_f32_i32 x y u v reducesTo_S16384x8192_S16384_d1 h_S_ j).2

/-- The operations of the reference, in order, the arg-min's own five at the place of its call. -/
abbrev ops : List (HloOp τ sig (Elt F)) :=
  [ binary main_arg0 main_arg0 main_v0 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v0 main_cst main_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S8192x64, .f32⟩ : BufTy).Contents (Elt F) → (⟨S8192x64, .f32⟩ : BufTy).Contents (Elt F) → (⟨S8192x64, .f32⟩ : BufTy).Contents (Elt F)),
    nullary main_cst_0 (constant S_ .f32 0x00000000#32),
    binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v4 main_v5 (broadcastInDim S1x8192 ![1] bcast_S8192_S1x8192_1 : (⟨S8192, .f32⟩ : BufTy).Contents (Elt F) → (⟨S1x8192, .f32⟩ : BufTy).Contents (Elt F)),
    unary main_v2 main_v6 (broadcastInDim S16384x8192 ![0, 1] bcast_S16384x1_S16384x8192_0_1 : (⟨S16384x1, .f32⟩ : BufTy).Contents (Elt F) → (⟨S16384x8192, .f32⟩ : BufTy).Contents (Elt F)),
    unary main_v5 main_v7 (broadcastInDim S16384x8192 ![0, 1] bcast_S1x8192_S16384x8192_0_1 : (⟨S1x8192, .f32⟩ : BufTy).Contents (Elt F) → (⟨S16384x8192, .f32⟩ : BufTy).Contents (Elt F)),
    binary main_v6 main_v7 main_v8 (addf : (⟨S16384x8192, .f32⟩ : BufTy).Contents (Elt F) → (⟨S16384x8192, .f32⟩ : BufTy).Contents (Elt F) → (⟨S16384x8192, .f32⟩ : BufTy).Contents (Elt F)),
    unary main_arg1 main_v9 ((transpose S64x8192 [1, 0] · transposes_S8192x64_S64x8192_1_0) : (⟨S8192x64, .f32⟩ : BufTy).Contents (Elt F) → (⟨S64x8192, .f32⟩ : BufTy).Contents (Elt F)),
    binary main_arg0 main_v9 main_v10 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
    nullary main_cst_1 (constant S_ .f32 0x40000000#32),
    unary main_cst_1 main_v11 (broadcastInDim S16384x8192 ![] bcast_S_S16384x8192 : (⟨S_, .f32⟩ : BufTy).Contents (Elt F) → (⟨S16384x8192, .f32⟩ : BufTy).Contents (Elt F)),
    binary main_v11 main_v10 main_v12 (mulf : (⟨S16384x8192, .f32⟩ : BufTy).Contents (Elt F) → (⟨S16384x8192, .f32⟩ : BufTy).Contents (Elt F) → (⟨S16384x8192, .f32⟩ : BufTy).Contents (Elt F)),
    binary main_v8 main_v12 main_v13 (subf : (⟨S16384x8192, .f32⟩ : BufTy).Contents (Elt F) → (⟨S16384x8192, .f32⟩ : BufTy).Contents (Elt F) → (⟨S16384x8192, .f32⟩ : BufTy).Contents (Elt F)),
    nullary main_call0_v0 (iotaInDim S16384x8192 32 1),
    nullary main_call0_cst (constant S_ .f32 0x7F800000#32),
    nullary main_call0_c (constantI S_ 32 0#32),
    quaternary main_v13 main_call0_v0 main_call0_cst main_call0_c main_call0_v1_0 (fn_argmin_value (F := F)),
    quaternary main_v13 main_call0_v0 main_call0_cst main_call0_c main_v14 (fn_argmin_index (F := F)),
    nullary main_cst_2 (constant S_ .f32 0x00000000#32),
    unary main_cst_2 main_v15 (broadcastInDim S16384x8192 ![] bcast_S_S16384x8192 : (⟨S_, .f32⟩ : BufTy).Contents (Elt F) → (⟨S16384x8192, .f32⟩ : BufTy).Contents (Elt F)),
    nullary main_v16 (iotaInDim S16384 32 0),
    nullary main_c (constantI S_ 32 0#32),
    unary main_c main_v17 (broadcastInDim S16384 ![] bcast_S_S16384 : (⟨S_, .i32⟩ : BufTy).Contents (Elt F) → (⟨S16384, .i32⟩ : BufTy).Contents (Elt F)),
    binary main_v16 main_v17 main_v18 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v19 (broadcastInDim S16384 ![] bcast_S_S16384 : (⟨S_, .i32⟩ : BufTy).Contents (Elt F) → (⟨S16384, .i32⟩ : BufTy).Contents (Elt F)),
    binary main_v16 main_v19 main_v20 (addi : (⟨S16384, .i32⟩ : BufTy).Contents (Elt F) → (⟨S16384, .i32⟩ : BufTy).Contents (Elt F) → (⟨S16384, .i32⟩ : BufTy).Contents (Elt F)),
    ternary main_v18 main_v20 main_v16 main_v21 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_4 (constantI S_ 32 0#32),
    unary main_c_4 main_v22 (broadcastInDim S16384 ![] bcast_S_S16384 : (⟨S_, .i32⟩ : BufTy).Contents (Elt F) → (⟨S16384, .i32⟩ : BufTy).Contents (Elt F)),
    binary main_v14 main_v22 main_v23 (cmpi .slt : (⟨S16384, .i32⟩ : BufTy).Contents (Elt F) → (⟨S16384, .i32⟩ : BufTy).Contents (Elt F) → (⟨S16384, .i1⟩ : BufTy).Contents (Elt F)),
    nullary main_c_5 (constantI S_ 32 8192#32),
    unary main_c_5 main_v24 (broadcastInDim S16384 ![] bcast_S_S16384 : (⟨S_, .i32⟩ : BufTy).Contents (Elt F) → (⟨S16384, .i32⟩ : BufTy).Contents (Elt F)),
    binary main_v14 main_v24 main_v25 (addi : (⟨S16384, .i32⟩ : BufTy).Contents (Elt F) → (⟨S16384, .i32⟩ : BufTy).Contents (Elt F) → (⟨S16384, .i32⟩ : BufTy).Contents (Elt F)),
    ternary main_v23 main_v25 main_v14 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v21 main_v27 (broadcastInDim S16384x1 ![0] bcast_S16384_S16384x1_0 : (⟨S16384, .i32⟩ : BufTy).Contents (Elt F) → (⟨S16384x1, .i32⟩ : BufTy).Contents (Elt F)),
    unary main_v26 main_v28 (broadcastInDim S16384x1 ![0] bcast_S16384_S16384x1_0 : (⟨S16384, .i32⟩ : BufTy).Contents (Elt F) → (⟨S16384x1, .i32⟩ : BufTy).Contents (Elt F)),
    binary main_v27 main_v28 main_v29 (fn_concatenate (F := F)),
    nullary main_cst_6 (constant S_ .f32 0x3F800000#32),
    unary main_cst_6 main_v30 (broadcastInDim S16384 ![] bcast_S_S16384 : (⟨S_, .f32⟩ : BufTy).Contents (Elt F) → (⟨S16384, .f32⟩ : BufTy).Contents (Elt F)),
    ternary main_v15 main_v29 main_v30 main_v31 ((fun x i u => Host.scatter scatter_S16384x8192_S16384x2_S16384_n_01_01_1 (fun _ b => b) x i u) : (⟨S16384x8192, .f32⟩ : BufTy).Contents (Elt F) → (⟨S16384x2, .i32⟩ : BufTy).Contents (Elt F) → (⟨S16384, .f32⟩ : BufTy).Contents (Elt F) → (⟨S16384x8192, .f32⟩ : BufTy).Contents (Elt F)),
    binary main_v31 main_arg1 main_v32 ((fun l r => Host.dotGeneral dot_S16384x8192_S8192x64_S16384x64_1_0_0_1_n_n none l r) : (⟨S16384x8192, .f32⟩ : BufTy).Contents (Elt F) → (⟨S8192x64, .f32⟩ : BufTy).Contents (Elt F) → (⟨S16384x64, .f32⟩ : BufTy).Contents (Elt F)),
    binary main_v32 main_arg0 main_v33 (subf : (⟨S16384x64, .f32⟩ : BufTy).Contents (Elt F) → (⟨S16384x64, .f32⟩ : BufTy).Contents (Elt F) → (⟨S16384x64, .f32⟩ : BufTy).Contents (Elt F)),
    binary main_v33 main_v33 main_v34 (mulf : (⟨S16384x64, .f32⟩ : BufTy).Contents (Elt F) → (⟨S16384x64, .f32⟩ : BufTy).Contents (Elt F) → (⟨S16384x64, .f32⟩ : BufTy).Contents (Elt F)),
    nullary main_cst_7 (constant S_ .f32 0x00000000#32),
    binary main_v34 main_cst_7 main_v35 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_8 (constant S_ .f32 0x49800000#32),
    binary main_v35 main_cst_8 main_v36 (Host.divf : (⟨S_, .f32⟩ : BufTy).Contents (Elt F) → (⟨S_, .f32⟩ : BufTy).Contents (Elt F) → (⟨S_, .f32⟩ : BufTy).Contents (Elt F)),
    binary main_v32 main_arg0 main_v37 (subf : (⟨S16384x64, .f32⟩ : BufTy).Contents (Elt F) → (⟨S16384x64, .f32⟩ : BufTy).Contents (Elt F) → (⟨S16384x64, .f32⟩ : BufTy).Contents (Elt F)),
    binary main_v37 main_v37 main_v38 (mulf : (⟨S16384x64, .f32⟩ : BufTy).Contents (Elt F) → (⟨S16384x64, .f32⟩ : BufTy).Contents (Elt F) → (⟨S16384x64, .f32⟩ : BufTy).Contents (Elt F)),
    nullary main_cst_9 (constant S_ .f32 0x00000000#32),
    binary main_v38 main_cst_9 main_v39 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    nullary main_cst_10 (constant S_ .f32 0x49800000#32),
    binary main_v39 main_cst_10 main_v40 (Host.divf : (⟨S_, .f32⟩ : BufTy).Contents (Elt F) → (⟨S_, .f32⟩ : BufTy).Contents (Elt F) → (⟨S_, .f32⟩ : BufTy).Contents (Elt F)),
    nullary main_cst_11 (constant S_ .f32 0x3E800000#32),
    binary main_cst_11 main_v36 main_v41 (mulf : (⟨S_, .f32⟩ : BufTy).Contents (Elt F) → (⟨S_, .f32⟩ : BufTy).Contents (Elt F) → (⟨S_, .f32⟩ : BufTy).Contents (Elt F)),
    binary main_v40 main_v41 main_v42 (addf : (⟨S_, .f32⟩ : BufTy).Contents (Elt F) → (⟨S_, .f32⟩ : BufTy).Contents (Elt F) → (⟨S_, .f32⟩ : BufTy).Contents (Elt F)),
    binary main_v32 main_arg0 main_v43 (subf : (⟨S16384x64, .f32⟩ : BufTy).Contents (Elt F) → (⟨S16384x64, .f32⟩ : BufTy).Contents (Elt F) → (⟨S16384x64, .f32⟩ : BufTy).Contents (Elt F)),
    binary main_arg0 main_v43 main_v44 (addf : (⟨S16384x64, .f32⟩ : BufTy).Contents (Elt F) → (⟨S16384x64, .f32⟩ : BufTy).Contents (Elt F) → (⟨S16384x64, .f32⟩ : BufTy).Contents (Elt F)) ]

set_option maxRecDepth 8192 in
set_option maxHeartbeats 4000000 in
/-- The reference is that list, run in order. -/
theorem main_eq (c : Dev nD) : main (F := F) c = seq ops := rfl

/-- The reference has no scoped buffer. -/
theorem scopedRefs_eq : (Finset.univ.filter fun b : Ref sig .tc => b.isScoped) = ∅ := by decide

/-- The reference has no scoped semaphore. -/
theorem scopedSems_eq : (Finset.univ.filter fun sm : SemLoc sig => sm.isScoped .tc) = ∅ := by decide

set_option maxRecDepth 8192 in
/-- Every operation works on the TensorCore's own buffers. -/
theorem ops_sub : (ops : List (HloOp τ sig (Elt F))).Forall fun op => op.bufs ⊆ tcRefs τ sig := by
  simp only [List.Forall, nullary_bufs_sub, unary_bufs_sub, binary_bufs_sub, ternary_bufs_sub, quaternary_bufs_sub, and_self]

/-- The reference's distances: squared norm of the row plus squared norm of the code, less twice their product. -/
def distances (x : (⟨S16384x64, .f32⟩ : BufTy).Contents (Elt F)) (e : (⟨S8192x64, .f32⟩ : BufTy).Contents (Elt F)) :
    (⟨S16384x8192, .f32⟩ : BufTy).Contents (Elt F) :=
  subf (addf
      (broadcastInDim S16384x8192 ![0, 1] bcast_S16384x1_S16384x8192_0_1 (broadcastInDim S16384x1 ![0] bcast_S16384_S16384x1_0
        (Host.reduceAdd (mulf x x) (constant S_ .f32 0x00000000#32) reducesTo_S16384x64_S16384_d1 h_S_)))
      (broadcastInDim S16384x8192 ![0, 1] bcast_S1x8192_S16384x8192_0_1 (broadcastInDim S1x8192 ![1] bcast_S8192_S1x8192_1
        (Host.reduceAdd (mulf e e) (constant S_ .f32 0x00000000#32) reducesTo_S8192x64_S8192_d1 h_S_))))
    (mulf (broadcastInDim S16384x8192 ![] bcast_S_S16384x8192 (constant S_ .f32 0x40000000#32))
      (Host.dotGeneral dot_S16384x64_S64x8192_S16384x8192_1_0_0_1_n_n none x (transpose S64x8192 [1, 0] e transposes_S8192x64_S64x8192_1_0)))

/-- The reference's choice of a code for each row: the column of the least distance. -/
def choices (d : (⟨S16384x8192, .f32⟩ : BufTy).Contents (Elt F)) : (⟨S16384, .i32⟩ : BufTy).Contents (Elt F) :=
  fn_argmin_index (F := F) d (iotaInDim S16384x8192 32 1) (constant S_ .f32 0x7F800000#32) (constantI S_ 32 0#32)

/-- A list of indices along an axis of `n` entries, the negative ones counted from the end. -/
def wrapped (n : BitVec 32) (i : (⟨S16384, .i32⟩ : BufTy).Contents (Elt F)) : (⟨S16384, .i32⟩ : BufTy).Contents (Elt F) :=
  select (cmpi .slt i (broadcastInDim S16384 ![] bcast_S_S16384 (constantI S_ 32 0#32)))
    (addi i (broadcastInDim S16384 ![] bcast_S_S16384 (constantI S_ 32 n))) i

/-- Where the reference scatters its ones: row `r` of this array is the row and the column of the `r`-th one. -/
def places (j : (⟨S16384, .i32⟩ : BufTy).Contents (Elt F)) : (⟨S16384x2, .i32⟩ : BufTy).Contents (Elt F) :=
  fn_concatenate (F := F)
    (broadcastInDim S16384x1 ![0] bcast_S16384_S16384x1_0 (wrapped (F := F) 16384#32 (iotaInDim S16384 32 0)))
    (broadcastInDim S16384x1 ![0] bcast_S16384_S16384x1_0 (wrapped (F := F) 8192#32 j))

/-- The reference's encodings: ones scattered into zeros, one in each row. -/
def encodings (x : (⟨S16384x64, .f32⟩ : BufTy).Contents (Elt F)) (e : (⟨S8192x64, .f32⟩ : BufTy).Contents (Elt F)) :
    (⟨S16384x8192, .f32⟩ : BufTy).Contents (Elt F) :=
  Host.scatter scatter_S16384x8192_S16384x2_S16384_n_01_01_1 (fun _ b => b)
    (broadcastInDim S16384x8192 ![] bcast_S_S16384x8192 (constant S_ .f32 0x00000000#32))
    (places (F := F) (choices (F := F) (distances x e)))
    (broadcastInDim S16384 ![] bcast_S_S16384 (constant S_ .f32 0x3F800000#32))

/-- The reference's quantized rows: the encodings times the codes. -/
def quantized (x : (⟨S16384x64, .f32⟩ : BufTy).Contents (Elt F)) (e : (⟨S8192x64, .f32⟩ : BufTy).Contents (Elt F)) :
    (⟨S16384x64, .f32⟩ : BufTy).Contents (Elt F) :=
  Host.dotGeneral dot_S16384x8192_S8192x64_S16384x64_1_0_0_1_n_n none (encodings x e) e

/-- The reference's mean of the squared differences of the quantized rows and the input. -/
def meanSquare (x : (⟨S16384x64, .f32⟩ : BufTy).Contents (Elt F)) (e : (⟨S8192x64, .f32⟩ : BufTy).Contents (Elt F)) :
    (⟨S_, .f32⟩ : BufTy).Contents (Elt F) :=
  Host.divf (Host.reduceAdd (mulf (subf (quantized x e) x) (subf (quantized x e) x)) (constant S_ .f32 0x00000000#32)
    reducesTo_S16384x64_S_d0_1 h_S_) (constant S_ .f32 0x49800000#32)

/-- The reference's first result, the loss: the mean, and a quarter of it again. -/
def loss (x : (⟨S16384x64, .f32⟩ : BufTy).Contents (Elt F)) (e : (⟨S8192x64, .f32⟩ : BufTy).Contents (Elt F)) :
    (⟨S_, .f32⟩ : BufTy).Contents (Elt F) :=
  addf (meanSquare x e) (mulf (constant S_ .f32 0x3E800000#32) (meanSquare x e))

/-- The reference's second result, the straight-through rows: the input plus the difference to the quantized rows. -/
def straightThrough (x : (⟨S16384x64, .f32⟩ : BufTy).Contents (Elt F)) (e : (⟨S8192x64, .f32⟩ : BufTy).Contents (Elt F)) :
    (⟨S16384x64, .f32⟩ : BufTy).Contents (Elt F) :=
  addf x (subf (quantized x e) x)

set_option maxRecDepth 8192 in
set_option maxHeartbeats 24800000 in
/-- The reference terminates with its three results the functions above of its two arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = loss (F := F) (m ((c.tc : Thread nD τ).loc main_arg0)) (m ((c.tc : Thread nD τ).loc main_arg1))
      ∧ r.2.mem ((c.tc : Thread nD τ).loc main_v44) = straightThrough (F := F) (m ((c.tc : Thread nD τ).loc main_arg0)) (m ((c.tc : Thread nD τ).loc main_arg1))
      ∧ r.2.mem ((c.tc : Thread nD τ).loc main_v31) = encodings (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v42).trans (by after_results_simp <;> rfl),
      (h c main_v44).trans (by after_results_simp <;> rfl),
      (h c main_v31).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Run

end
-- ==== Proof.KernelBody.lean ====
/-
What the kernel's body leaves behind at one grid point, as values of the two blocks it was given: in the two tiles it writes, in
the running sum it carries from point to point and, at the last point, in the loss.
-/
module

public import proofs.«01_k».proof.Proof.Gen.KernelIdeal.Frame
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The offsets of an access that starts at the corner. -/
theorem corner : (![0, 0] : Fin 2 → Nat) = fun _ => 0 := funext fun a => by fin_cases a <;> rfl

/-- An array of one row and one column has one index. -/
theorem only (j j' : S1x1.Idx) : j = j' :=
  funext fun a => Fin.ext (by
    have h : ∀ a : Fin 2, ∀ k : Fin (S1x1.size a), k.val = 0 := by decide
    rw [h a (j a), h a (j' a)])

/-- What a buffer reads once its last store wrote the whole of it: that store's payload. -/
theorem stored {S : Shape} {ty : EltTy} {sp : Space} (v : View sig .tc sp S ty) {off : Fin S.rank → Nat} (h : off = fun _ => 0)
    (inb : ∀ a, off a + S.size a ≤ S.size a) (w : S.Idx → Elt F ty) (L : List (View.Piece (Elt F) S ty)) :
    v.read (Elt F) (v.writes (Elt F) v.junk (⟨Rect.unit off S.size inb, w⟩ :: L)) = w :=
  (View.read_writes_eq_canon v _ _ fun y => ⟨_, List.mem_cons_self, View.mem_set_unit_zero h inb y⟩).trans
    (View.canon_cons_unit_zero h inb w L)

variable (c : Dev nD) (i : grid0.Coords)
variable (a1 : Memref sig .tc .vmem S256x64 .f32) (h1 : a1.IsWhole) (a2 : Memref sig .tc .vmem S8192x64 .f32) (h2 : a2.IsWhole)
variable (a3 : Memref sig .tc .vmem S256x8192 .f32) (h3 : a3.IsWhole) (a4 : Memref sig .tc .vmem S256x64 .f32) (h4 : a4.IsWhole)
variable (a5 : Memref sig .tc .smem S1x1 .f32) (h5 : a5.IsWhole) (a6 : Memref sig .tc .smem S1x1 .f32) (h6 : a6.IsWhole)
variable (x : Vec F S256x64 .f32) (e : Vec F S8192x64 .f32) (s : Vec F S1x1 .f32)

/-- A load of the whole of a block of rows reads its contents. -/
theorem load_rows (inb : ∀ a, (![0, 0] : Fin 2 → Nat) a + S256x64.size a ≤ S256x64.size a) :
    a1.view.readAt (Elt F) (Rect.unit (s := S256x64) ![0, 0] S256x64.size inb).toLoadRect (h1.unread x) = x := by
  rw [View.readAt_eq_ld, h1.read_unread]
  exact View.ld_unit_zero (S := S256x64) corner inb x

/-- A load of the whole of the codebook reads its contents. -/
theorem load_codebook (inb : ∀ a, (![0, 0] : Fin 2 → Nat) a + S8192x64.size a ≤ S8192x64.size a) :
    a2.view.readAt (Elt F) (Rect.unit (s := S8192x64) ![0, 0] S8192x64.size inb).toLoadRect (h2.unread e) = e := by
  rw [View.readAt_eq_ld, h2.read_unread]
  exact View.ld_unit_zero (S := S8192x64) corner inb e

/-- A load of the running sum reads its contents. -/
theorem load_sum (inb : ∀ a, (![0, 0] : Fin 2 → Nat) a + S1x1.size a ≤ S1x1.size a) :
    a6.view.readAt (Elt F) (Rect.unit (s := S1x1) ![0, 0] S1x1.size inb).toLoadRect (h6.unread s) = s := by
  rw [View.readAt_eq_ld, h6.read_unread]
  exact View.ld_unit_zero (S := S1x1) corner inb s

/-- The encodings of the rows and the codebook the body loaded are those of the blocks it was given. -/
theorem encodings_loaded (inb inb') :
    k0_pay3 (a1.view.readAt (Elt F) (Rect.unit (s := S256x64) ![0, 0] S256x64.size inb).toLoadRect (h1.unread x))
      (a2.view.readAt (Elt F) (Rect.unit (s := S8192x64) ![0, 0] S8192x64.size inb').toLoadRect (h2.unread e)) = k0_pay3 x e :=
  congrArg₂ k0_pay3 (load_rows a1 h1 x inb) (load_codebook a2 h2 e inb')

/-- The same of the quantized rows. -/
theorem quantized_loaded (inb inb') :
    k0_pay4 (a1.view.readAt (Elt F) (Rect.unit (s := S256x64) ![0, 0] S256x64.size inb).toLoadRect (h1.unread x))
      (a2.view.readAt (Elt F) (Rect.unit (s := S8192x64) ![0, 0] S8192x64.size inb').toLoadRect (h2.unread e)) = k0_pay4 x e :=
  congrArg₂ k0_pay4 (load_rows a1 h1 x inb) (load_codebook a2 h2 e inb')

/-- The same of the sum of the squared errors. -/
theorem total_loaded (inb inb') :
    k0_pay5 (a1.view.readAt (Elt F) (Rect.unit (s := S256x64) ![0, 0] S256x64.size inb).toLoadRect (h1.unread x))
      (a2.view.readAt (Elt F) (Rect.unit (s := S8192x64) ![0, 0] S8192x64.size inb').toLoadRect (h2.unread e)) = k0_pay5 x e :=
  congrArg₂ k0_pay5 (load_rows a1 h1 x inb) (load_codebook a2 h2 e inb')

/-- A running sum the body loaded and added the block's to. -/
theorem sum_loaded (inb inb' inb'') (k j : S1x1.Idx) :
    Scalar.addf (a6.view.readAt (Elt F) (Rect.unit (s := S1x1) ![0, 0] S1x1.size inb'').toLoadRect (h6.unread s) k)
      (k0_pay5 (a1.view.readAt (Elt F) (Rect.unit (s := S256x64) ![0, 0] S256x64.size inb).toLoadRect (h1.unread x))
        (a2.view.readAt (Elt F) (Rect.unit (s := S8192x64) ![0, 0] S8192x64.size inb').toLoadRect (h2.unread e)))
      = Scalar.addf (s j) (k0_pay5 x e) := by
  rw [total_loaded, load_sum, only k j]

/-- At the first point the body leaves the encodings of its block of rows. -/
theorem encodings_first (hc0 : cond0_0 i) (hc1 : ¬cond0_1 i) : out0_A_2 c i a1 h1 a2 h2 a3 h3 a4 h4 a5 h5 a6 h6 hc0 hc1 x e = k0_pay3 x e :=
  (stored VO0_2 corner _ _ []).trans (encodings_loaded a1 h1 a2 h2 x e _ _)

/-- At a point between the first and the last the body leaves the encodings of its block of rows. -/
theorem encodings_between (hc0 : ¬cond0_0 i) (hc1 : ¬cond0_1 i) : out0_B_2 c i a1 h1 a2 h2 a3 h3 a4 h4 a5 h5 a6 h6 hc0 hc1 x e s = k0_pay3 x e :=
  (stored VO0_2 corner _ _ []).trans (encodings_loaded a1 h1 a2 h2 x e _ _)

/-- At the last point the body leaves the encodings of its block of rows. -/
theorem encodings_last (hc0 : ¬cond0_0 i) (hc1 : cond0_1 i) : out0_C_2 c i a1 h1 a2 h2 a3 h3 a4 h4 a5 h5 a6 h6 hc0 hc1 x e s = k0_pay3 x e :=
  (stored VO0_2 corner _ _ []).trans (encodings_loaded a1 h1 a2 h2 x e _ _)

/-- At the first point the body leaves the quantized rows of its block of rows. -/
theorem quantized_first (hc0 : cond0_0 i) (hc1 : ¬cond0_1 i) : out0_A_3 c i a1 h1 a2 h2 a3 h3 a4 h4 a5 h5 a6 h6 hc0 hc1 x e = k0_pay4 x e :=
  (stored VO0_3 corner _ _ []).trans (quantized_loaded a1 h1 a2 h2 x e _ _)

/-- At a point between the first and the last the body leaves the quantized rows of its block of rows. -/
theorem quantized_between (hc0 : ¬cond0_0 i) (hc1 : ¬cond0_1 i) : out0_B_3 c i a1 h1 a2 h2 a3 h3 a4 h4 a5 h5 a6 h6 hc0 hc1 x e s = k0_pay4 x e :=
  (stored VO0_3 corner _ _ []).trans (quantized_loaded a1 h1 a2 h2 x e _ _)

/-- At the last point the body leaves the quantized rows of its block of rows. -/
theorem quantized_last (hc0 : ¬cond0_0 i) (hc1 : cond0_1 i) : out0_C_3 c i a1 h1 a2 h2 a3 h3 a4 h4 a5 h5 a6 h6 hc0 hc1 x e s = k0_pay4 x e :=
  (stored VO0_3 corner _ _ []).trans (quantized_loaded a1 h1 a2 h2 x e _ _)

/-- After the first point the running sum is the sum of the block's squared errors, added to zero. -/
theorem sum_first (hc0 : cond0_0 i) (hc1 : ¬cond0_1 i) :
    sout0_A_0 c i a1 h1 a2 h2 a3 h3 a4 h4 a5 h5 a6 h6 hc0 hc1 x e
      = fun _ => Scalar.addf (Scalar.ofBits .f32 0x00000000#32) (k0_pay5 x e) :=
  (stored VS0_0 corner _ _ _).trans (funext fun _ => congrArg (Scalar.addf _) (total_loaded a1 h1 a2 h2 x e _ _))

/-- After a point between, the running sum is the block's added to what the point before left. -/
theorem sum_between (hc0 : ¬cond0_0 i) (hc1 : ¬cond0_1 i) :
    sout0_B_0 c i a1 h1 a2 h2 a3 h3 a4 h4 a5 h5 a6 h6 hc0 hc1 x e s = fun j => Scalar.addf (s j) (k0_pay5 x e) :=
  (stored VS0_0 corner _ _ []).trans (funext fun j => sum_loaded a1 h1 a2 h2 a6 h6 x e s _ _ _ _ j)

/-- After the last point, the same. -/
theorem sum_last (hc0 : ¬cond0_0 i) (hc1 : cond0_1 i) :
    sout0_C_0 c i a1 h1 a2 h2 a3 h3 a4 h4 a5 h5 a6 h6 hc0 hc1 x e s = fun j => Scalar.addf (s j) (k0_pay5 x e) :=
  (stored VS0_0 corner _ _ []).trans (funext fun j => sum_loaded a1 h1 a2 h2 a6 h6 x e s _ _ _ _ j)

/-- The loss the last point stores is `1.25` times the quotient of the running sum by the number of entries. -/
theorem loss_last (hc0 : ¬cond0_0 i) (hc1 : cond0_1 i) :
    out0_C_4 c i a1 h1 a2 h2 a3 h3 a4 h4 a5 h5 a6 h6 hc0 hc1 x e s = fun j => k0_pay2 (Scalar.addf (s j) (k0_pay5 x e)) :=
  (stored VO0_4 corner _ _ []).trans (funext fun j => congrArg k0_pay2 (sum_loaded a1 h1 a2 h2 a6 h6 x e s _ _ _ _ j))

end Cert.KernelIdeal.Body
-- ==== Proof.Codes.lean ====
/-
The mathematics of the problem, over the extended reals, with neither program in sight: the distance of a row to a code,
the first code at which the distances are least, the row of the encodings, the quantized row and the loss.
-/
module

public import Idealize.ShloMosaic.Lib.SortNet.Extract
public import Idealize.ShloMosaic.Lib.IdealHost
public import Idealize.ShloMosaic.Lib.WordCmp
public import Idealize.ShloMosaic.PureOps.Ideal.Laws

@[expose] public section

noncomputable section

namespace Cert.Codes

open Idealize.ShloMosaic

/-- The squared distance of a row `x` to code `j`, in the form both programs use: the row's square sum, plus the code's, minus
    twice the inner product (the factor is the number the word `0x40000000` stands for). -/
def dist (x : Fin 64 → EReal) (e : Fin 8192 → Fin 64 → EReal) (j : Fin 8192) : EReal :=
  (∑ k, x k * x k + ∑ k, e j k * e j k) - Ideal.ofBits .f32 0x40000000#32 * ∑ k, x k * e j k

/-- `j` is the first place at which `d` is least. -/
def FirstMin (d : Fin 8192 → EReal) (j : Fin 8192) : Prop := (∀ i, d j ≤ d i) ∧ ∀ i, d i = d j → j ≤ i

/-- There is such a place. -/
theorem exists_firstMin (d : Fin 8192 → EReal) : ∃ j, FirstMin d j := by
  obtain ⟨m, -, hm⟩ := Finset.exists_min_image Finset.univ d ⟨0, Finset.mem_univ _⟩
  obtain ⟨j, hj, hle⟩ := Finset.exists_min_image (Finset.univ.filter fun i => d i = d m) id
    ⟨m, Finset.mem_filter.2 ⟨Finset.mem_univ _, rfl⟩⟩
  have hjm : d j = d m := (Finset.mem_filter.1 hj).2
  exact ⟨j, fun i => hjm ▸ hm i (Finset.mem_univ _), fun i hi => hle i (Finset.mem_filter.2 ⟨Finset.mem_univ _, hi.trans hjm⟩)⟩

/-- The first place at which `d` is least. -/
def firstMin (d : Fin 8192 → EReal) : Fin 8192 := (exists_firstMin d).choose

theorem firstMin_spec (d : Fin 8192 → EReal) : FirstMin d (firstMin d) := (exists_firstMin d).choose_spec

/-- The row of the encodings: one at the first nearest code, zero elsewhere. -/
def encoding (x : Fin 64 → EReal) (e : Fin 8192 → Fin 64 → EReal) (j : Fin 8192) : EReal :=
  if j = firstMin (dist x e) then 1 else 0

/-- The quantized row: the encoding times the codes. -/
def quantum (x : Fin 64 → EReal) (e : Fin 8192 → Fin 64 → EReal) (k : Fin 64) : EReal := ∑ j, encoding x e j * e j k

/-- The squared difference of the quantized row and the row, at one place. -/
def error (x : Fin 64 → EReal) (e : Fin 8192 → Fin 64 → EReal) (k : Fin 64) : EReal :=
  (quantum x e k - x k) * (quantum x e k - x k)

/-! ## The numbers of the columns as words -/

theorem toNat_column (j : Fin 8192) : (BitVec.ofNat 32 j.val).toNat = j.val :=
  WordCmp.toNat_ofNat_of_lt (by have := j.isLt; omega)

theorem toInt_column (j : Fin 8192) : (BitVec.ofNat 32 j.val).toInt = (j.val : Int) := by
  rw [WordCmp.toInt_eq_toNat_of_lt_half (by rw [toNat_column]; have := j.isLt; omega), toNat_column]

theorem column_injective {i j : Fin 8192} (h : BitVec.ofNat 32 i.val = BitVec.ofNat 32 j.val) : i = j :=
  Fin.ext (by rw [← toNat_column i, h, toNat_column])

/-! ## Two ways to find the first least place -/

/-- The least of `d`, from `⊤`, is its value at the first least place. -/
theorem fold_min_eq (d : Fin 8192 → EReal) : (Finset.univ : Finset (Fin 8192)).fold min ⊤ d = d (firstMin d) := by
  apply le_antisymm
  · exact Finset.fold_min_le _ |>.2 (.inr ⟨_, Finset.mem_univ _, le_rfl⟩)
  · exact Finset.le_fold_min _ |>.2 ⟨le_top, fun i _ => (firstMin_spec d).1 i⟩

/-- A fold of the signed minimum of words is below the words it runs over and is one of them or the word it began with. -/
theorem fold_minsi_spec {ι : Type} [DecidableEq ι] (g : ι → BitVec 32) (s : Finset ι) (init : BitVec 32) :
    (∀ i ∈ s, (s.fold IntOp.minsi init g).toInt ≤ (g i).toInt) ∧
      (s.fold IntOp.minsi init g = init ∨ ∃ i ∈ s, s.fold IntOp.minsi init g = g i) := by
  refine Finset.induction_on s ⟨fun i hi => absurd hi (Finset.notMem_empty i), .inl (Finset.fold_empty ..)⟩ ?_
  intro a s has ⟨h1, h2⟩
  rw [Finset.fold_insert has]
  refine ⟨fun i hi => ?_, ?_⟩
  · rw [SortNet.toInt_minsi]
    rcases Finset.mem_insert.1 hi with rfl | hi
    · exact min_le_left _ _
    · exact (min_le_right _ _).trans (h1 i hi)
  · by_cases hlt : (g a).slt (s.fold IntOp.minsi init g) = true
    · exact .inr ⟨a, Finset.mem_insert_self .., by simp only [IntOp.minsi, hlt, if_true]⟩
    · have : IntOp.minsi (g a) (s.fold IntOp.minsi init g) = s.fold IntOp.minsi init g := by
        simp only [IntOp.minsi, hlt]; rfl
      rw [this]
      exact h2.imp_right fun ⟨i, hi, e⟩ => ⟨i, Finset.mem_insert_of_mem hi, e⟩

/-- The least column number among the places where `d` takes its least value, the other places counting as column 8192, is the
    first least place. -/
theorem fold_minsi_eq (d : Fin 8192 → EReal) :
    (Finset.univ : Finset (Fin 8192)).fold IntOp.minsi 2147483647#32
        (fun j => if d j = d (firstMin d) then BitVec.ofNat 32 j.val else 8192#32)
      = BitVec.ofNat 32 (firstMin d).val := by
  obtain ⟨h1, h2⟩ := fold_minsi_spec (fun j : Fin 8192 => if d j = d (firstMin d) then BitVec.ofNat 32 j.val else 8192#32)
    Finset.univ 2147483647#32
  have h := h1 (firstMin d) (Finset.mem_univ _)
  rw [if_pos rfl, toInt_column] at h
  have hlt := (firstMin d).isLt
  rcases h2 with h2 | ⟨i, -, h2⟩
  · rw [h2, show (2147483647#32 : BitVec 32).toInt = 2147483647 from rfl] at h; omega
  · by_cases hi : d i = d (firstMin d)
    · rw [if_pos hi] at h2
      rw [h2, toInt_column] at h
      have := (firstMin_spec d).2 i hi
      rw [h2, show i = firstMin d from le_antisymm (Fin.le_def.2 (by omega)) this]
    · rw [if_neg hi] at h2
      rw [h2, show (8192#32 : BitVec 32).toInt = 8192 from rfl] at h; omega

/-- Value first, column second: the order in which the pairs of a search for a least value are compared. -/
def Before (a b : EReal × BitVec 32) : Prop := a.1 < b.1 ∨ a.1 = b.1 ∧ a.2.toInt ≤ b.2.toInt

theorem Before.refl (a : EReal × BitVec 32) : Before a a := .inr ⟨rfl, le_rfl⟩

theorem Before.trans {a b c : EReal × BitVec 32} (h : Before a b) (h' : Before b c) : Before a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- A left fold that keeps one of the two pairs at each step, one that comes before both, ends at a pair before all, which is
    one of the list or the one it began with. -/
theorem foldl_before (f : EReal × BitVec 32 → EReal × BitVec 32 → EReal × BitVec 32)
    (hf : ∀ a b, (f a b = a ∨ f a b = b) ∧ Before (f a b) a ∧ Before (f a b) b) (l : List (EReal × BitVec 32)) (z : EReal × BitVec 32) :
    (l.foldl f z = z ∨ l.foldl f z ∈ l) ∧ Before (l.foldl f z) z ∧ ∀ p ∈ l, Before (l.foldl f z) p := by
  induction l generalizing z with
  | nil => exact ⟨.inl rfl, Before.refl _, fun _ h => absurd h List.not_mem_nil⟩
  | cons a l ih =>
    obtain ⟨h1, h2, h3⟩ := ih (f z a)
    obtain ⟨h4, h5, h6⟩ := hf z a
    refine ⟨?_, h2.trans h5, fun p hp => ?_⟩
    · rw [List.foldl_cons]
      rcases h1 with h1 | h1
      · rw [h1]
        rcases h4 with h4 | h4
        · exact .inl h4
        · exact .inr (by rw [h4]; exact List.mem_cons_self)
      · exact .inr (List.mem_cons_of_mem _ h1)
    · rcases List.mem_cons.1 hp with rfl | hp
      · exact h2.trans h6
      · exact h3 p hp

/-- Such a fold from `(⊤, 0)` over the pairs of `d`'s values and columns, in whatever order, ends at the first least place. -/
theorem foldl_before_eq (f : EReal × BitVec 32 → EReal × BitVec 32 → EReal × BitVec 32)
    (hf : ∀ a b, (f a b = a ∨ f a b = b) ∧ Before (f a b) a ∧ Before (f a b) b) (d : Fin 8192 → EReal)
    (l : List (EReal × BitVec 32)) (hl : ∀ p, p ∈ l ↔ ∃ j : Fin 8192, p = (d j, BitVec.ofNat 32 j.val)) :
    (l.foldl f (⊤, 0#32)).2 = BitVec.ofNat 32 (firstMin d).val := by
  obtain ⟨h1, -, h3⟩ := foldl_before f hf l (⊤, 0#32)
  have h := h3 _ ((hl _).2 ⟨firstMin d, rfl⟩)
  obtain ⟨hm, hfirst⟩ := firstMin_spec d
  rcases h1 with h1 | h1
  · -- no pair kept: every value is `⊤`, and the first place is column 0
    rw [h1] at h ⊢
    have htop : d (firstMin d) = ⊤ := by
      rcases h with h | ⟨h, -⟩
      · exact absurd h (not_lt.2 le_top)
      · exact h.symm
    have h0 := hfirst 0 (by rw [htop]; exact top_le_iff.1 (htop ▸ hm 0))
    rw [show firstMin d = 0 from le_antisymm h0 (Fin.zero_le _)]
    rfl
  · obtain ⟨j, hj⟩ := (hl _).1 h1
    rw [hj] at h ⊢
    rcases h with h | ⟨h, hi⟩
    · exact absurd h (not_lt.2 (hm j))
    · rw [toInt_column, toInt_column] at hi
      have hle := hfirst j h
      rw [show j = firstMin d from le_antisymm (Fin.le_def.2 (by omega)) hle]

/-! ## The loss -/

theorem error_nonneg (x : Fin 64 → EReal) (e : Fin 8192 → Fin 64 → EReal) (k : Fin 64) : 0 ≤ error x e k := by
  unfold error
  rcases le_total 0 (quantum x e k - x k) with h | h
  · exact mul_nonneg h h
  · have := mul_nonneg (EReal.neg_nonneg.2 h) (EReal.neg_nonneg.2 h)
    rwa [neg_mul_neg] at this

theorem ofBits_quarter : Ideal.ofBits .f32 0x3E800000#32 = ((1 / 4 : ℝ) : EReal) := by
  simp [Ideal.ofBits, Ideal.ieee]; rw [← EReal.coe_mul]; norm_num
theorem ofBits_five_quarters : Ideal.ofBits .f32 0x3FA00000#32 = ((5 / 4 : ℝ) : EReal) := by
  simp [Ideal.ofBits, Ideal.ieee]; rw [← EReal.coe_mul]; norm_num
theorem ofBits_count : Ideal.ofBits .f32 0x49800000#32 = ((1048576 : ℝ) : EReal) := by
  simp [Ideal.ofBits, Ideal.ieee]; rw [← EReal.coe_mul]; norm_num
theorem ofBits_inf : Ideal.ofBits .f32 0x7F800000#32 = ⊤ := by
  simp [Ideal.ofBits, Ideal.ieee]

/-- A mean that is not negative, plus a quarter of it, is five quarters of it. -/
theorem mean_add_quarter (s : EReal) (hs : 0 ≤ s) :
    Ideal.ofBits .f32 0x3FA00000#32 * Ideal.div s (Ideal.ofBits .f32 0x49800000#32)
      = Ideal.div s (Ideal.ofBits .f32 0x49800000#32)
        + Ideal.ofBits .f32 0x3E800000#32 * Ideal.div s (Ideal.ofBits .f32 0x49800000#32) := by
  rw [ofBits_quarter, ofBits_five_quarters, show ((5 / 4 : ℝ) : EReal) = ((1 : ℝ) : EReal) + ((1 / 4 : ℝ) : EReal) by
    rw [← EReal.coe_add]; norm_num,
    EReal.right_distrib_of_nonneg (by norm_num) (by exact_mod_cast (by norm_num : (0 : ℝ) ≤ 1 / 4)), EReal.coe_one, one_mul]

/-- A finite number plus the difference to it gives the other number back, finite or not. -/
theorem add_sub_self_of_finite {x : EReal} (h1 : x ≠ ⊤) (h2 : x ≠ ⊥) (q : EReal) : x + (q - x) = q := by
  lift x to ℝ using ⟨h1, h2⟩
  induction q using EReal.rec with
  | bot => simp
  | top => simp
  | coe r => rw [← EReal.coe_sub, ← EReal.coe_add]; congr 1; ring

/-- A number whose absolute value is below `⊤` is finite. -/
theorem finite_of_abs_lt {x : EReal} (h : max x (-x) < ⊤) : x ≠ ⊤ ∧ x ≠ ⊥ := by
  refine ⟨?_, ?_⟩ <;> rintro rfl <;> simp at h

end Cert.Codes
-- ==== Proof.KernelRead.lean ====
/-
What one block of the kernel computes, at the extended reals: the encodings of its 256 rows, their quantized rows and the sum of
their squared errors, each as the mathematics of `Codes` has it.
-/
module

public import proofs.«01_k».proof.Proof.Gen.KernelIdeal.Skeleton
public import proofs.«01_k».proof.Proof.Codes
public import Idealize.ShloMosaic.Lib.Pipeline.Value
public import Idealize.ShloMosaic.Lib.ValueIdx
public import Idealize.ShloMosaic.Lib.ValueIdxRank1
public import Idealize.ShloMosaic.Lib.MatmulPlain

@[expose] public section

set_option maxRecDepth 16384

noncomputable section

namespace Cert.KernelIdeal.Block

open Cert.KernelIdeal Cert.KernelIdeal.Gen Cert.Codes Idealize.ShloMosaic Idealize.ShloMosaic.ValueIdx

/-- A block of rows and the codebook as the kernel's body reads them. -/
local notation "Tile" => FVec Ideal S256x64 FTy.f32
local notation "Codebook" => FVec Ideal S8192x64 FTy.f32

/-- Row `r` of a block. -/
abbrev rowOf (x : Tile) (r : Fin 256) : Fin 64 → EReal := fun k => x (ix2 r k)

/-- The codes. -/
abbrev codesOf (e : Codebook) : Fin 8192 → Fin 64 → EReal := fun j k => e (ix2 j k)

/-! ## A column and a row, spread over the block -/

/-- A list of 256 entries, stood up as a column and spread over the block, has its `r`-th entry all along row `r`. -/
theorem column_apply {α : Type} (v : S256.Idx → α) (r : Fin 256) (j : Fin 8192) :
    broadcastTo S256x8192 (shapeCast S256x1 v shapeCasts_S256_S256x1) broadcasts_S256x1_S256x8192 (ix2 r j) = v (ix1 r) := by
  rw [broadcastTo_apply _ broadcasts_S256x1_S256x8192 (ix2 r j) (ix2 r (0 : Fin 1))
      (fun a => match a with | ⟨0, _⟩ => by simp | ⟨1, _⟩ => by simp),
    shapeCast_apply _ shapeCasts_S256_S256x1 (ix2 r (0 : Fin 1)) (ix1 r) (by rw [Shape.rowMajor_val_one, Shape.rowMajor_val_two]; simp)]

/-- A list of 8192 entries, laid out as a row and spread over the block, has its `j`-th entry all along column `j`. -/
theorem row_apply {α : Type} (v : S8192.Idx → α) (r : Fin 256) (j : Fin 8192) :
    broadcastTo S256x8192 (shapeCast S1x8192 v shapeCasts_S8192_S1x8192) broadcasts_S1x8192_S256x8192 (ix2 r j) = v (ix1 j) := by
  rw [broadcastTo_apply _ broadcasts_S1x8192_S256x8192 (ix2 r j) (ix2 (0 : Fin 1) j)
      (fun a => match a with | ⟨0, _⟩ => by simp | ⟨1, _⟩ => by simp),
    shapeCast_apply _ shapeCasts_S8192_S1x8192 (ix2 (0 : Fin 1) j) (ix1 j) (by rw [Shape.rowMajor_val_one, Shape.rowMajor_val_two]; simp)]

/-! ## The distances of a block -/

/-- The block's distances, as the body computes them. -/
def distances (x : Tile) (e : Codebook) : FVec Ideal S256x8192 .f32 :=
  subf (addf
      (broadcastTo S256x8192 (shapeCast S256x1 (multiReduction .add [1] S256 (mulf x x) 0x00000000#32 reduces_S256x64_S256 (.inl rfl) rfl)
        shapeCasts_S256_S256x1) broadcasts_S256x1_S256x8192)
      (broadcastTo S256x8192 (shapeCast S1x8192 (multiReduction .add [1] S8192 (mulf e e) 0x00000000#32 reduces_S8192x64_S8192 (.inl rfl) rfl)
        shapeCasts_S8192_S1x8192) broadcasts_S1x8192_S256x8192))
    (mulf (broadcast S256x8192 (Scalar.ofBits .f32 0x40000000#32))
      (matmul dot_S256x64_S8192x64_S256x8192_1_1_0_0_n_n none x e (constant S256x8192 .f32 0x00000000#32)))

/-- The square sum of a row of a block, as the body reduces it. -/
theorem tile_squares (x : Tile) (r : Fin 256) :
    multiReduction (F := Ideal) .add [1] S256 (mulf x x) 0x00000000#32 reduces_S256x64_S256 (.inl rfl) rfl (ix1 r)
      = ∑ k, rowOf x r k * rowOf x r k := by
  refine (Ideal.multiReduction_add_single (mulf x x) _ reduces_S256x64_S256 _ _ (ix1 r)).trans (Finset.sum_congr rfl fun k _ => ?_)
  have h : reduces_S256x64_S256.lift (ix1 r) k = ix2 r k := funext fun a => Fin.ext (by match a with | ⟨0, _⟩ => rfl | ⟨1, _⟩ => rfl)
  rw [mulf_apply]
  exact congrArg (fun i => x i * x i) h

/-- The square sum of a code, as the body reduces it. -/
theorem code_squares (e : Codebook) (j : Fin 8192) :
    multiReduction (F := Ideal) .add [1] S8192 (mulf e e) 0x00000000#32 reduces_S8192x64_S8192 (.inl rfl) rfl (ix1 j)
      = ∑ k, codesOf e j k * codesOf e j k := by
  refine (Ideal.multiReduction_add_single (mulf e e) _ reduces_S8192x64_S8192 _ _ (ix1 j)).trans (Finset.sum_congr rfl fun k _ => ?_)
  have h : reduces_S8192x64_S8192.lift (ix1 j) k = ix2 j k := funext fun a => Fin.ext (by match a with | ⟨0, _⟩ => rfl | ⟨1, _⟩ => rfl)
  rw [mulf_apply]
  exact congrArg (fun i => e i * e i) h

theorem dot_distances : dot_S256x64_S8192x64_S256x8192_1_1_0_0_n_n = DotDims.transposedRhs 256 64 8192 := rfl

theorem dot_quantized : dot_S256x8192_S8192x64_S256x64_1_0_0_1_n_n = DotDims.plain 256 8192 64 := rfl

/-- The body's distances are the distances. -/
theorem distances_apply (x : Tile) (e : Codebook) (r : Fin 256) (j : Fin 8192) :
    distances x e (ix2 r j) = Codes.dist (rowOf x r) (codesOf e) j := by
  unfold distances Codes.dist
  rw [subf_apply, addf_apply, mulf_apply, column_apply, row_apply, dot_distances, tile_squares, code_squares, broadcast_apply]
  refine congrArg₂ (· - ·) rfl (congrArg (Ideal.ofBits .f32 0x40000000#32 * ·) ?_)
  refine (Ideal.matmul_transposedRhs_apply none x e _ r j).trans ?_
  rw [constant_apply, Ideal.ofBits_zero_f32, zero_add]

/-! ## The first least column of each row, and a one there -/

/-- The least entry of each row, as the body finds it. -/
def leasts (d : FVec Ideal S256x8192 .f32) : FVec Ideal S256 .f32 :=
  multiReduction .minimumf [1] S256 d 0x7F800000#32 reduces_S256x8192_S256 (.inl rfl) rfl

/-- The columns at which a row is least, the others counting as column 8192. -/
def candidates (d : FVec Ideal S256x8192 .f32) : IVec S256x8192 32 :=
  select (cmpf .oeq d (broadcastTo S256x8192 (shapeCast S256x1 (leasts d) shapeCasts_S256_S256x1) broadcasts_S256x1_S256x8192))
    (iota .tc S256x8192 32 [1] iota_S256x8192_d1_w32) (broadcast S256x8192 8192#32)

/-- The first of them. -/
def chosen (d : FVec Ideal S256x8192 .f32) : IVec S256 32 :=
  multiReductionI .minsi [1] S256 (candidates d) 2147483647#32 reduces_S256x8192_S256 rfl

/-- Ones at the chosen columns, zeros elsewhere. -/
def ones (c : IVec S256 32) : FVec Ideal S256x8192 .f32 :=
  select (cmpi .eq (iota .tc S256x8192 32 [1] iota_S256x8192_d1_w32)
      (broadcastTo S256x8192 (shapeCast S256x1 c shapeCasts_S256_S256x1) broadcasts_S256x1_S256x8192))
    (broadcast S256x8192 (Scalar.ofBits .f32 0x3F800000#32)) (broadcast S256x8192 (Scalar.ofBits .f32 0x00000000#32))

/-- The body's encodings are ones at the chosen columns of its distances. -/
theorem pay3_eq (x : Tile) (e : Codebook) : k0_pay3 (F := Ideal) x e = ones (chosen (distances x e)) := rfl

/-- The place the reductions over a block's columns read at. -/
theorem lift_columns (r : Fin 256) (j : Fin 8192) : reduces_S256x8192_S256.lift (ix1 r) j = ix2 r j :=
  funext fun a => Fin.ext (by match a with | ⟨0, _⟩ => rfl | ⟨1, _⟩ => rfl)

/-- The least entry of a row is its entry at the first least column. -/
theorem leasts_apply (d : FVec Ideal S256x8192 .f32) (r : Fin 256) :
    leasts d (ix1 r) = d (ix2 r (firstMin fun j => d (ix2 r j))) := by
  classical
  unfold leasts
  refine (multiReduction_minimumf_eq_fold d _ reduces_S256x8192_S256 _ _ (ix1 r)).trans ?_
  rw [Shape.Reduces.fold_filter_drop_single reduces_S256x8192_S256]
  refine Eq.trans ?_ (fold_min_eq fun j => d (ix2 r j))
  rw [show (d ∘ reduces_S256x8192_S256.lift (ix1 r)) = fun j => d (ix2 r j) from funext fun j => congrArg d (lift_columns r j)]
  exact congrArg (fun z => Finset.fold min z (fun j => d (ix2 r j)) Finset.univ) ofBits_inf

/-- A column is a candidate exactly when the row's entry there is its entry at the first least column. -/
theorem candidates_apply (d : FVec Ideal S256x8192 .f32) (r : Fin 256) (j : Fin 8192) :
    candidates d (ix2 r j) = if d (ix2 r j) = d (ix2 r (firstMin fun j => d (ix2 r j))) then BitVec.ofNat 32 j.val else 8192#32 := by
  unfold candidates
  rw [select_apply, cmpf_apply, column_apply, leasts_apply, iota_single_apply, broadcast_apply, Ideal.cmpf_def]
  by_cases h : d (ix2 r j) = d (ix2 r (firstMin fun j => d (ix2 r j)))
  · rw [if_pos h]; simp [Ideal.cmp, Scalar.select, h]
  · rw [if_neg h]; simp [Ideal.cmp, Scalar.select, h]

/-- The chosen column of a row is its first least column. -/
theorem chosen_apply (d : FVec Ideal S256x8192 .f32) (r : Fin 256) :
    chosen d (ix1 r) = BitVec.ofNat 32 (firstMin fun j => d (ix2 r j)).val := by
  classical
  unfold chosen
  refine (multiReductionI_eq_fold .minsi (candidates d) _ reduces_S256x8192_S256 _ (ix1 r)).trans ?_
  rw [Shape.Reduces.fold_filter_drop_single reduces_S256x8192_S256]
  refine Eq.trans ?_ (fold_minsi_eq fun j => d (ix2 r j))
  refine congrArg (fun g => Finset.fold IntOp.minsi 2147483647#32 g Finset.univ) (funext fun j => ?_)
  exact (congrArg (candidates d) (lift_columns r j)).trans (candidates_apply d r j)

/-- The body's encodings are the encodings of the block's rows. -/
theorem encodings_apply (x : Tile) (e : Codebook) (r : Fin 256) (j : Fin 8192) :
    k0_pay3 (F := Ideal) x e (ix2 r j) = encoding (rowOf x r) (codesOf e) j := by
  rw [pay3_eq]
  unfold ones encoding
  have hd : (fun j => distances x e (ix2 r j)) = Codes.dist (rowOf x r) (codesOf e) := funext fun j => distances_apply x e r j
  rw [select_apply]
  show Scalar.select (IntOp.cmpi .eq _ _) _ _ = _
  rw [column_apply, chosen_apply, iota_single_apply, hd, WordCmp.cmpi_eq_eq]
  by_cases h : j = firstMin (Codes.dist (rowOf x r) (codesOf e))
  · rw [if_pos h, ← h]
    simpa [Scalar.select, broadcast_apply] using Ideal.ofBits_one_f32
  · rw [if_neg h, decide_eq_false (fun h' => h (column_injective h'))]
    simpa [Scalar.select, broadcast_apply] using Ideal.ofBits_zero_f32

/-! ## The quantized rows and the sum of the squared errors -/

/-- The body's quantized rows are the quantized rows of the block. -/
theorem quantized_apply (x : Tile) (e : Codebook) (r : Fin 256) (k : Fin 64) :
    k0_pay4 (F := Ideal) x e (ix2 r k) = quantum (rowOf x r) (codesOf e) k := by
  unfold k0_pay4 quantum
  show FloatOps.matmul dot_S256x8192_S8192x64_S256x64_1_0_0_1_n_n none (k0_pay3 (F := Ideal) x e) e (constant S256x64 .f32 0x00000000#32) (ix2 r k) = _
  rw [dot_quantized, Ideal.matmul_plain_apply, constant_apply, Ideal.ofBits_zero_f32, zero_add]
  refine Finset.sum_congr rfl fun j _ => ?_
  rw [encodings_apply]

/-- A block read in another shape has the same sum. -/
theorem sum_shapeCast {s t : Shape} (x : s.Idx → EReal) (h : s.ShapeCasts t) : ∑ i, shapeCast t x h i = ∑ i, x i := by
  unfold shapeCast
  exact Equiv.sum_comp _ x

/-- What the body adds to the running total is the sum of the block's squared errors. -/
theorem total_apply (x : Tile) (e : Codebook) :
    k0_pay5 (F := Ideal) x e = ∑ r, ∑ k, error (rowOf x r) (codesOf e) k := by
  unfold k0_pay5
  show shapeCast S1x1x1 (multiReduction (F := Ideal) .add [1, 2] S1 _ 0x00000000#32 reduces_S1x256x64_S1 (.inl rfl) rfl) shapeCasts_S1_S1x1x1 _ = _
  refine (Ideal.multiReduction_add_total _ _ reduces_S1x256x64_S1 (fun b => by fin_cases b; rfl) _ _ _).trans ?_
  refine (sum_shapeCast _ shapeCasts_S256x64_S1x256x64).trans ?_
  rw [sum_idx2]
  refine Finset.sum_congr rfl fun r _ => Finset.sum_congr rfl fun k _ => ?_
  rw [mulf_apply, subf_apply, quantized_apply]; rfl

end Cert.KernelIdeal.Block
-- ==== Proof.KernelPoints.lean ====
/-
What the kernel holds after each point of its grid: the blocks its body is given there are rows of the input and the codebook, the
tiles it leaves are theirs, and the running sum is the sum of the squared errors of all the blocks so far.
-/
module

public import proofs.«01_k».proof.Proof.KernelBody
public import proofs.«01_k».proof.Proof.KernelRead

@[expose] public section

set_option maxRecDepth 16384

noncomputable section

namespace Cert.KernelIdeal.Points

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- The input as launched … -/
abbrev input : FVec Ideal S16384x64 .f32 := m ((c : Thread nD τ).loc main_arg0)
/-- … and the codebook. -/
abbrev book : FVec Ideal S8192x64 .f32 := m ((c : Thread nD τ).loc main_arg1)

/-- The block of rows the body is given at grid point `t` … -/
abbrev rowsAt (t : Fin cfg0.N) : FVec Ideal S256x64 .f32 := iblk m c 0 t
/-- … and the codebook it is given there. -/
abbrev bookAt (t : Fin cfg0.N) : FVec Ideal S8192x64 .f32 := iblk m c 1 t

/-- At point `t` the body is given the rows from `256 t` on … -/
theorem index_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- … and the codebook from its start. -/
theorem index_book : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Row `r` of the block at point `t`, as a row of the array. -/
def rowIn (t : Fin cfg0.N) (r : Fin 256) : Fin 16384 :=
  ⟨256 * t.val + r.val, by have := lt_of_lt_of_eq t.isLt (show cfg0.N = 64 from N_0); omega⟩

/-- So a row of the block is that row of the input … -/
theorem rowsAt_apply (t : Fin cfg0.N) (r : Fin 256) (k : Fin 64) :
    rowsAt m c t (ix2 r k) = input m c (ix2 (rowIn t r) k) := by
  show V m c main_arg0 (((cfg0.win 0).blk t).view.emb (ix2 r k)) = _
  rw [V_main_arg0]
  refine congrArg (input m c) (funext fun a => Fin.ext ?_)
  fin_cases a
  · show win0_0.index t (0 : Fin 2) * 256 + 1 * r.val = 256 * t.val + r.val
    rw [(index_rows t).1]; omega
  · show win0_0.index t (1 : Fin 2) * 64 + 1 * k.val = k.val
    rw [(index_rows t).2]; omega

/-- … and the codebook given is the codebook. -/
theorem bookAt_eq (t : Fin cfg0.N) : bookAt m c t = book m c := by
  funext i
  show V m c main_arg1 (((cfg0.win 1).blk t).view.emb i) = _
  rw [V_main_arg1]
  refine congrArg (book m c) (funext fun a => Fin.ext ?_)
  fin_cases a
  · show win0_1.index t (0 : Fin 2) * 8192 + 1 * (i 0).val = (i 0).val
    rw [(index_book t).1]; omega
  · show win0_1.index t (1 : Fin 2) * 64 + 1 * (i 1).val = (i 1).val
    rw [(index_book t).2]; omega

/-! What the body leaves at each point. -/

/-- The first tile: the encodings of the block. -/
theorem encodings_at (t : Fin cfg0.N) :
    (outsAt0 m c t.val t.isLt).1 = k0_pay3 (F := Ideal) (rowsAt m c t) (bookAt m c t) := by
  by_cases h0 : t.val % 64 = 0
  · rw [outsAt0_A m c t h0 (by omega), Body.encodings_first]
  · by_cases h1 : t.val % 64 = 63
    · rw [outsAt0_C m c t h0 h1, Body.encodings_last]
    · rw [outsAt0_B m c t h0 h1, Body.encodings_between]

/-- The second tile: the quantized rows of the block. -/
theorem quantized_at (t : Fin cfg0.N) :
    (outsAt0 m c t.val t.isLt).2.1 = k0_pay4 (F := Ideal) (rowsAt m c t) (bookAt m c t) := by
  by_cases h0 : t.val % 64 = 0
  · rw [outsAt0_A m c t h0 (by omega), Body.quantized_first]
  · by_cases h1 : t.val % 64 = 63
    · rw [outsAt0_C m c t h0 h1, Body.quantized_last]
    · rw [outsAt0_B m c t h0 h1, Body.quantized_between]

/-- The sum of the squared errors of the block at point `n`. -/
def totalAt (n : ℕ) : EReal := if h : n < cfg0.N then k0_pay5 (F := Ideal) (rowsAt m c ⟨n, h⟩) (bookAt m c ⟨n, h⟩) else 0

/-- At a point of the grid that is the body's sum. -/
theorem totalAt_eq (t : Fin cfg0.N) : totalAt m c t.val = k0_pay5 (F := Ideal) (rowsAt m c t) (bookAt m c t) := dif_pos t.isLt

/-- After a point but the first the running sum is what it was, and the block's. -/
theorem sum_step (t : Fin cfg0.N) (h0 : ¬t.val % 64 = 0) (j : S1x1.Idx) :
    (outsAt0 m c t.val t.isLt).2.2.2 j
      = ((outsAt0 m c (t.val - 1) (Nat.lt_of_le_of_lt (Nat.sub_le _ _) t.isLt)).2.2.2 j : EReal) + totalAt m c t.val := by
  rw [totalAt_eq]
  by_cases h1 : t.val % 64 = 63
  · rw [outsAt0_C m c t h0 h1, Body.sum_last]; rfl
  · rw [outsAt0_B m c t h0 h1, Body.sum_between]; rfl

/-- A number added to the zero the running sum starts from. -/
theorem from_zero (p : EReal) : Scalar.addf (F := Ideal) (φ := .f32) (Scalar.ofBits .f32 0x00000000#32) p = p :=
  (congrArg (· + p) Ideal.ofBits_zero_f32).trans (zero_add p)

/-- After the first point the running sum is the block's. -/
theorem sum_start (t : Fin cfg0.N) (h0 : t.val % 64 = 0) (j : S1x1.Idx) :
    (outsAt0 m c t.val t.isLt).2.2.2 j = totalAt m c t.val := by
  rw [totalAt_eq, outsAt0_A m c t h0 (by omega), Body.sum_first]
  exact from_zero _

/-- The same two facts of a point and the one before it, by their numbers. -/
theorem sum_next (n k : ℕ) (h : n < cfg0.N) (hk : k < cfg0.N) (e : n = k + 1) (j : S1x1.Idx) :
    (outsAt0 m c n h).2.2.2 j = ((outsAt0 m c k hk).2.2.2 j : EReal) + totalAt m c n := by
  have hN : n < 64 := lt_of_lt_of_eq h (show cfg0.N = 64 from N_0)
  obtain rfl : k = n - 1 := by omega
  exact sum_step m c ⟨n, h⟩ (by dsimp only; omega) j

/-- After point `n` the running sum is the sum over the blocks up to `n`. -/
theorem sum_at (j : S1x1.Idx) (n : ℕ) :
    ∀ (k : ℕ) (h : k < cfg0.N), k = n →
    (outsAt0 m c k h).2.2.2 j = ∑ p ∈ Finset.range (n + 1), totalAt m c p := by
  induction n with
  | zero =>
    intro k h e
    rw [Finset.sum_range_one, ← e]
    exact sum_start m c ⟨k, h⟩ (by dsimp only; omega) j
  | succ n ih =>
    intro k h e
    rw [Finset.sum_range_succ, ← ih n (by omega) rfl, ← e]
    exact sum_next m c k n h (by omega) e j

/-- At the last point the loss the body stores is `1.25` times the quotient of the sum over all the blocks by the number of entries. -/
theorem loss_at (t : Fin cfg0.N) (ht : t.val = 63) (j : S1x1.Idx) :
    (outsAt0 m c t.val t.isLt).2.2.1 j = k0_pay2 (F := Ideal) (∑ p ∈ Finset.range 64, totalAt m c p) := by
  have h0 : ¬t.val % 64 = 0 := by omega
  have h1 : t.val % 64 = 63 := by omega
  have e : (outsAt0 m c t.val t.isLt).2.2.1 j = k0_pay2 (F := Ideal) ((outsAt0 m c t.val t.isLt).2.2.2 j) := by
    rw [outsAt0_C m c t h0 h1, Body.loss_last, Body.sum_last]
  rw [e, sum_at m c j 63 t.val t.isLt ht]

end Cert.KernelIdeal.Points
-- ==== Proof.KernelArrays.lean ====
/-
What the kernel's arrays hold when its grid is done: every row's encoding, every quantized row, and the loss.
-/
module

public import proofs.«01_k».proof.Proof.KernelPoints

@[expose] public section

set_option maxRecDepth 16384

noncomputable section

namespace Cert.KernelIdeal.Arrays

open Cert.KernelIdeal Cert.KernelIdeal.Gen Cert.KernelIdeal.Points Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-- Row `r` of the input. -/
abbrev row (r : Fin 16384) : Fin 64 → EReal := fun k => input m c (ix2 r k)

/-- The codebook's rows. -/
abbrev codes : Fin 8192 → Fin 64 → EReal := Block.codesOf (book m c)

/-- Row `r` of the block at point `t` is a row of the input. -/
theorem rowOf_rowsAt (t : Fin cfg0.N) (r : Fin 256) : Block.rowOf (rowsAt m c t) r = row m c (rowIn t r) :=
  funext fun k => rowsAt_apply m c t r k

/-- Where the encodings' tile of point `t` lies: … -/
theorem index_encodings : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- … and where the quantized rows' does. -/
theorem index_quantized : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Every row is in the block of one point. -/
theorem point_of_row (i : Fin 16384) : ∃ t : Fin cfg0.N, t.val = i.val / 256 :=
  ⟨⟨i.val / 256, by rw [show cfg0.N = 64 from N_0]; omega⟩, rfl⟩

/-- The encodings of all the rows. -/
def encodings : FVec Ideal S16384x8192 .f32 := fun i => Codes.encoding (row m c (i 0)) (codes m c) (i 1)

/-- All the quantized rows. -/
def quantized : FVec Ideal S16384x64 .f32 := fun i => Codes.quantum (row m c (i 0)) (codes m c) (i 1)

/-- What point `t` writes back of the encodings is its rows' part of them. -/
theorem flushed_encodings (t : Fin cfg0.N) :
    (dats m 0 c).flushed 2 t = ((cfg0.win 2).blk t).view.read (Elt Ideal) (encodings m c) := by
  show (cfg0.win 2).cut (grid0.coords t) ((dats m 0 c).after 2 t) = _
  rw [after0_2, encodings_at]
  funext i
  obtain ⟨r, j, rfl⟩ : ∃ (r : Fin 256) (j : Fin 8192), i = ix2 r j := ⟨i 0, i 1, eq_ix2 i⟩
  refine (Block.encodings_apply (rowsAt m c t) (bookAt m c t) r j).trans ?_
  rw [rowOf_rowsAt, bookAt_eq]
  have e : ((cfg0.win 2).blk t).view.emb (ix2 r j) = (ix2 (rowIn t r) j : S16384x8192.Idx) := by
    refine funext fun a => Fin.ext ?_
    fin_cases a
    · show win0_2.index t (0 : Fin 2) * 256 + 1 * r.val = 256 * t.val + r.val
      rw [(index_encodings t).1]; omega
    · show win0_2.index t (1 : Fin 2) * 8192 + 1 * j.val = j.val
      rw [(index_encodings t).2]; omega
  exact (congrArg (encodings m c) e).symm

/-- The grid done, the first array is the encodings of all the rows. -/
theorem final_encodings : (dats m 0 c).arrAt 2 cfg0.N = encodings m c :=
  (dats m 0 c).arrAt_eq_of_cover 2 (encodings m c) (fun t _ => flushed_encodings m c t) fun (i : S16384x8192.Idx) => by
    have h0 : (i 0 : Nat) < 16384 := (i 0).isLt
    have h1 : (i 1 : Nat) < 8192 := (i 1).isLt
    obtain ⟨t, ht⟩ := point_of_row (i 0)
    refine ⟨t, flush0_2 t, ?_⟩
    show i ∈ ((View.whole main_v0_2).slice (win0_2.rect t)).set
    rw [View.set_slice_whole, Rect.mem_set_unit]
    intro a
    match a with
    | ⟨0, _⟩ =>
      show win0_2.index t (0 : Fin 2) * 256 ≤ (i 0 : Nat) ∧ (i 0 : Nat) < win0_2.index t (0 : Fin 2) * 256 + 256
      rw [(index_encodings t).1]; omega
    | ⟨1, _⟩ =>
      show win0_2.index t (1 : Fin 2) * 8192 ≤ (i 1 : Nat) ∧ (i 1 : Nat) < win0_2.index t (1 : Fin 2) * 8192 + 8192
      rw [(index_encodings t).2]; omega

/-- What point `t` writes back of the quantized rows is its rows' part of them. -/
theorem flushed_quantized (t : Fin cfg0.N) :
    (dats m 0 c).flushed 3 t = ((cfg0.win 3).blk t).view.read (Elt Ideal) (quantized m c) := by
  show (cfg0.win 3).cut (grid0.coords t) ((dats m 0 c).after 3 t) = _
  rw [after0_3, quantized_at]
  funext i
  obtain ⟨r, k, rfl⟩ : ∃ (r : Fin 256) (k : Fin 64), i = ix2 r k := ⟨i 0, i 1, eq_ix2 i⟩
  refine (Block.quantized_apply (rowsAt m c t) (bookAt m c t) r k).trans ?_
  rw [rowOf_rowsAt, bookAt_eq]
  have e : ((cfg0.win 3).blk t).view.emb (ix2 r k) = (ix2 (rowIn t r) k : S16384x64.Idx) := by
    refine funext fun a => Fin.ext ?_
    fin_cases a
    · show win0_3.index t (0 : Fin 2) * 256 + 1 * r.val = 256 * t.val + r.val
      rw [(index_quantized t).1]; omega
    · show win0_3.index t (1 : Fin 2) * 64 + 1 * k.val = k.val
      rw [(index_quantized t).2]; omega
  exact (congrArg (quantized m c) e).symm

/-- The grid done, the second array is all the quantized rows. -/
theorem final_quantized : (dats m 0 c).arrAt 3 cfg0.N = quantized m c :=
  (dats m 0 c).arrAt_eq_of_cover 3 (quantized m c) (fun t _ => flushed_quantized m c t) fun (i : S16384x64.Idx) => by
    have h0 : (i 0 : Nat) < 16384 := (i 0).isLt
    have h1 : (i 1 : Nat) < 64 := (i 1).isLt
    obtain ⟨t, ht⟩ := point_of_row (i 0)
    refine ⟨t, flush0_3 t, ?_⟩
    show i ∈ ((View.whole main_v0_1).slice (win0_3.rect t)).set
    rw [View.set_slice_whole, Rect.mem_set_unit]
    intro a
    match a with
    | ⟨0, _⟩ =>
      show win0_3.index t (0 : Fin 2) * 256 ≤ (i 0 : Nat) ∧ (i 0 : Nat) < win0_3.index t (0 : Fin 2) * 256 + 256
      rw [(index_quantized t).1]; omega
    | ⟨1, _⟩ =>
      show win0_3.index t (1 : Fin 2) * 64 ≤ (i 1 : Nat) ∧ (i 1 : Nat) < win0_3.index t (1 : Fin 2) * 64 + 64
      rw [(index_quantized t).2]; omega

/-- The sum over the blocks is what the last point makes the loss of. -/
def lossOfBlocks : EReal := k0_pay2 (F := Ideal) (∑ p ∈ Finset.range 64, totalAt m c p)

/-- The loss is written back from its corner. -/
theorem index_loss : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The one point that writes the loss back is the last, and it writes the loss of all the blocks. -/
theorem flushed_loss (t : Fin cfg0.N) (hf : (cfg0.win 4).flush t = true) :
    (dats m 0 c).flushed 4 t = ((cfg0.win 4).blk t).view.read (Elt Ideal) (fun _ => lossOfBlocks m c) := by
  have hN : t.val < 64 := lt_of_lt_of_eq t.isLt (show cfg0.N = 64 from N_0)
  have ht : t.val = 63 := by have := (flush0_4 t).mp hf; omega
  show (cfg0.win 4).cut (grid0.coords t) ((dats m 0 c).after 4 t) = _
  rw [after0_4]
  exact funext fun j => loss_at m c t ht j

/-- The grid done, the third array holds the loss of all the blocks. -/
theorem final_loss : (dats m 0 c).arrAt 4 cfg0.N = fun _ => lossOfBlocks m c :=
  (dats m 0 c).arrAt_eq_of_cover 4 (fun _ => lossOfBlocks m c) (flushed_loss m c) fun (i : S1x1.Idx) => by
    have h0 : (i 0 : Nat) < 1 := (i 0).isLt
    have h1 : (i 1 : Nat) < 1 := (i 1).isLt
    obtain ⟨t, ht⟩ : ∃ t : Fin cfg0.N, t.val = 63 := ⟨⟨63, by rw [show cfg0.N = 64 from N_0]; omega⟩, rfl⟩
    refine ⟨t, (flush0_4 t).mpr (by omega), ?_⟩
    show i ∈ ((View.whole main_call0_v0_2).slice (win0_4.rect t)).set
    rw [View.set_slice_whole, Rect.mem_set_unit]
    intro a
    match a with
    | ⟨0, _⟩ =>
      show win0_4.index t (0 : Fin 2) * 1 ≤ (i 0 : Nat) ∧ (i 0 : Nat) < win0_4.index t (0 : Fin 2) * 1 + 1
      rw [(index_loss t).1]; omega
    | ⟨1, _⟩ =>
      show win0_4.index t (1 : Fin 2) * 1 ≤ (i 1 : Nat) ∧ (i 1 : Nat) < win0_4.index t (1 : Fin 2) * 1 + 1
      rw [(index_loss t).2]; omega

/-- The reshape after the grid makes a scalar of it. -/
theorem final_scalar : Pipeline.afterTail₀ cfgs (dats m) 0 (V0 m) [hostOps1] c main_v0_0 = fun _ => lossOfBlocks m c := by
  have e : Pipeline.withArrays (cfgs 0).spec c (V0 m c) (fun w => (dats m 0 c).arrAt w (cfgs 0).N)
      (Proc.devRef .tc main_call0_v0_2) = fun _ => lossOfBlocks m c :=
    (Pipeline.withArrays_arr (cfgs 0).spec (by decide) c (V0 m c) (fun w => (dats m 0 c).arrAt w (cfgs 0).N) 4).trans (final_loss m c)
  show StableHlo.after hostOps1 _ (Proc.devRef .tc main_v0_0) = _
  after_results
  rw [e]
  rfl

/-- The kernel run: its three results and its two arguments. -/
theorem run (ρ : Dev nD → PrngReg) : θ_run defs (onTc (τ := τ) (main (F := Ideal))) ⟨m, fun _ => 0, ρ⟩ fun r => ∀ c : Dev nD,
      r.2.mem ((c : Thread nD τ).loc main_v0_0) = (fun _ => lossOfBlocks m c)
      ∧ r.2.mem ((c : Thread nD τ).loc main_v0_1) = quantized m c
      ∧ r.2.mem ((c : Thread nD τ).loc main_v0_2) = encodings m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v0_0 (by decide)).trans (final_scalar m c),
      ((h c).1 3).trans (final_quantized m c), ((h c).1 2).trans (final_encodings m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arrays
-- ==== Proof.ReferenceRead.lean ====
/-
The reference's results read at an index, at the extended reals: the distances, the chosen codes, the encodings, the quantized
rows and the loss, each as the mathematics of `Codes` has it.
-/
module

public import proofs.«01_k».proof.Proof.ReferenceRun
public import proofs.«01_k».proof.Proof.Codes
public import Idealize.ShloMosaic.Lib.Pipeline.Value
public import Idealize.ShloMosaic.Lib.ValueIdx
public import Idealize.ShloMosaic.Lib.ValueIdxRank1
public import Idealize.ShloMosaic.Lib.StackMember
public import Idealize.ShloMosaic.Lib.Routing.OpsSet

@[expose] public section

set_option maxRecDepth 16384

noncomputable section

namespace Cert.ReferenceIdeal.Run

open Cert.ReferenceIdeal Cert.ReferenceIdeal.Gen Cert.Codes Idealize.ShloMosaic Idealize.ShloMosaic.ValueIdx

/-- The input and the codebook as the reference holds them. -/
local notation "Input" => FVec Ideal S16384x64 FTy.f32
local notation "Codebook" => FVec Ideal S8192x64 FTy.f32

/-- Row `r` of the input. -/
abbrev rowOf (x : Input) (r : Fin 16384) : Fin 64 → EReal := fun k => x (ix2 r k)

/-- The codes. -/
abbrev codesOf (e : Codebook) : Fin 8192 → Fin 64 → EReal := fun j k => e (ix2 j k)

/-! ## The distances -/

/-- The square sum of a row of the input, as the reference reduces it. -/
theorem input_squares (x : Input) (r : Fin 16384) :
    Host.reduceAdd (F := Ideal) (mulf x x) (constant S_ .f32 0x00000000#32) reducesTo_S16384x64_S16384_d1 h_S_ (ix1 r)
      = ∑ k, rowOf x r k * rowOf x r k := by
  simp only [Host.reduceAdd, Ideal.hostReduceAdd_def]
  rw [Ideal.hostReduceAdd_single reducesTo_S16384x64_S16384_d1 (by decide), constant_apply, Ideal.ofBits_zero_f32, zero_add]
  refine Finset.sum_congr rfl fun k _ => ?_
  rw [mulf_apply]
  have e : Shape.Reduces.lift (s := S16384x64) (t := S16384) (a := 1) (by decide) (ix1 r) k = ix2 r k :=
    funext fun a => Fin.ext (by match a with | ⟨0, _⟩ => rfl | ⟨1, _⟩ => rfl)
  rw [e]; rfl

/-- The square sum of a code, as the reference reduces it. -/
theorem code_squares (e : Codebook) (j : Fin 8192) :
    Host.reduceAdd (F := Ideal) (mulf e e) (constant S_ .f32 0x00000000#32) reducesTo_S8192x64_S8192_d1 h_S_ (ix1 j)
      = ∑ k, codesOf e j k * codesOf e j k := by
  simp only [Host.reduceAdd, Ideal.hostReduceAdd_def]
  rw [Ideal.hostReduceAdd_single reducesTo_S8192x64_S8192_d1 (by decide), constant_apply, Ideal.ofBits_zero_f32, zero_add]
  refine Finset.sum_congr rfl fun k _ => ?_
  rw [mulf_apply]
  have h : Shape.Reduces.lift (s := S8192x64) (t := S8192) (a := 1) (by decide) (ix1 j) k = ix2 j k :=
    funext fun a => Fin.ext (by match a with | ⟨0, _⟩ => rfl | ⟨1, _⟩ => rfl)
  rw [h]; rfl

theorem dot_distances : dot_S16384x64_S64x8192_S16384x8192_1_0_0_1_n_n = DotDims.plain 16384 64 8192 := rfl

theorem dot_quantized : dot_S16384x8192_S8192x64_S16384x64_1_0_0_1_n_n = DotDims.plain 16384 8192 64 := rfl

/-- The reference's distances are the distances. -/
theorem distances_apply (x : Input) (e : Codebook) (r : Fin 16384) (j : Fin 8192) :
    distances (F := Ideal) x e (ix2 r j) = Codes.dist (rowOf x r) (codesOf e) j := by
  unfold distances Codes.dist
  rw [subf_apply, addf_apply, mulf_apply, dot_distances, StackMember.dotGeneral_plain_apply,
    broadcastInDim_scalar_apply, constant_apply,
    broadcastInDim_apply _ bcast_S16384x1_S16384x8192_0_1 _ (ix2 r j) (ix2 r (0 : Fin 1))
      (fun a => match a with | ⟨0, _⟩ => by simp | ⟨1, _⟩ => by simp),
    broadcastInDim_apply _ bcast_S16384_S16384x1_0 _ (ix2 r (0 : Fin 1)) (ix1 r) (fun a => match a with | ⟨0, _⟩ => by simp),
    broadcastInDim_apply _ bcast_S1x8192_S16384x8192_0_1 _ (ix2 r j) (ix2 (0 : Fin 1) j)
      (fun a => match a with | ⟨0, _⟩ => by simp | ⟨1, _⟩ => by simp),
    broadcastInDim_apply _ bcast_S8192_S1x8192_1 _ (ix2 (0 : Fin 1) j) (ix1 j) (fun a => match a with | ⟨0, _⟩ => by simp),
    input_squares, code_squares]
  congr 2
  refine Finset.sum_congr rfl fun k _ => ?_
  rw [transpose_apply _ _ transposes_S8192x64_S64x8192_1_0 (ix2 k j) (ix2 j k)
    (fun a => match a with | ⟨0, _⟩ => rfl | ⟨1, _⟩ => rfl)]

/-! ## The chosen codes -/

/-- The reference's arg-min keeps, of two pairs, one that comes before both. -/
theorem reducer_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨v, i⟩ := a
  obtain ⟨w, j⟩ := b
  simp only [reducer_argmin_f32_i32, Ideal.cmpf_def, Ideal.cmp, WordCmp.cmpi_slt_eq, Scalar.select, Before, ne_eq, not_true_eq_false]
  rcases lt_trichotomy v w with h | h | h
  · simp [h, h.ne, IntOp.ori, IntOp.andi]
  · subst h
    by_cases hi : i.toInt < j.toInt
    · simp [hi, hi.le, IntOp.ori, IntOp.andi]
    · simp [hi, not_lt.1 hi, IntOp.ori, IntOp.andi]
  · simp [h, h.ne', not_lt.2 h.le, IntOp.ori, IntOp.andi]

/-- The pairs over which a row's arg-min runs are the row's entries, at any extents. -/
theorem mem_fiber {R C : Nat} {α β : Type} (x : (⟨2, ![R, C]⟩ : Shape).Idx → α) (y : (⟨2, ![R, C]⟩ : Shape).Idx → β)
    (h : (⟨2, ![R, C]⟩ : Shape).ReducesTo [1] ⟨1, ![R]⟩) (r : Fin R) (p : α × β) :
    p ∈ Host.argReduceFiber x y h (ix1 r) ↔ ∃ c : Fin C, p = (x (ix2 r c), y (ix2 r c)) := by
  have hd : ∀ i : (⟨2, ![R, C]⟩ : Shape).Idx, h.drop i = ix1 r ↔ i 0 = r := fun i => by
    have hv : ((h.drop i) 0).val = (i 0).val := h.drop_apply_val_of_eq i 0 0 (show 0 < 1 from Nat.one_pos) rfl
    constructor
    · intro e; exact Fin.ext (hv.symm.trans (congrArg Fin.val (congrFun e 0)))
    · intro e
      funext a
      match a with
      | ⟨0, _⟩ => exact Fin.ext (hv.trans (congrArg Fin.val e))
  simp only [Host.argReduceFiber, List.mem_map, List.mem_filter, List.mem_finRange, true_and, decide_eq_true_eq]
  constructor
  · rintro ⟨n, hn, rfl⟩
    generalize (⟨2, ![R, C]⟩ : Shape).rowMajor.symm n = i at hn ⊢
    have hi := (hd i).1 hn
    subst hi
    refine ⟨i 1, ?_⟩
    exact congrArg (fun i => (x i, y i)) (eq_ix2 i)
  · rintro ⟨c, rfl⟩
    refine ⟨(⟨2, ![R, C]⟩ : Shape).rowMajor (ix2 r c), ?_, ?_⟩
    · rw [Equiv.symm_apply_apply]; exact (hd _).2 rfl
    · rw [Equiv.symm_apply_apply]

/-- An arg-min of rows of 8192 entries, from `⊤` and column 0, is the first place at which the row is least. -/
theorem argmin_apply {R : Nat} {u : Shape} (f : EReal × BitVec 32 → EReal × BitVec 32 → EReal × BitVec 32)
    (hf : ∀ a b, (f a b = a ∨ f a b = b) ∧ Before (f a b) a ∧ Before (f a b) b) (d : FVec Ideal ⟨2, ![R, 8192]⟩ .f32)
    (y : IVec ⟨2, ![R, 8192]⟩ 32) (hy : ∀ r c, y (ix2 r c) = BitVec.ofNat 32 c.val) (v : FVec Ideal u .f32) (hv : ∀ i, v i = (⊤ : EReal))
    (w : IVec u 32) (hw : ∀ i, w i = 0#32) (h : (⟨2, ![R, 8192]⟩ : Shape).ReducesTo [1] ⟨1, ![R]⟩) (hu : 0 < u.numel) (r : Fin R) :
    (Host.argReduce (F := Ideal) f d y v w h hu (ix1 r)).2 = BitVec.ofNat 32 (firstMin fun j => d (ix2 r j)).val := by
  rw [Ideal.argReduce_eq_reduce2, Host.reduce2_eq_foldl_fiber, hv, hw]
  refine foldl_before_eq f hf _ _ fun p => ?_
  rw [mem_fiber]
  simp only [hy]

/-- The chosen columns are the second result of the arg-min. -/
theorem fn_argmin_index_eq : fn_argmin_index (F := Ideal)
    = fun x y u v j => (Host.argReduce (F := Ideal) (φ := .f32) (s := S16384x8192) (axes := [1]) (t := S16384) (u := S_) (β := BitVec 32)
        reducer_argmin_f32_i32 x y u v reducesTo_S16384x8192_S16384_d1 h_S_ j).2 := by
  delta fn_argmin_index; rfl

/-- The reference's choice of a code for a row is the first at which the distances are least. -/
theorem choices_apply (d : FVec Ideal S16384x8192 .f32) (r : Fin 16384) :
    choices (F := Ideal) d (ix1 r) = BitVec.ofNat 32 (firstMin fun j => d (ix2 r j)).val := by
  unfold choices
  rw [fn_argmin_index_eq]
  exact argmin_apply _ reducer_before d _ (fun _ _ => rfl) _ (fun _ => ofBits_inf) _ (fun _ => rfl) reducesTo_S16384x8192_S16384_d1 h_S_ r

/-! ## The encodings -/

/-- A list of indices that are not negative is left as it is. -/
theorem wrapped_apply (n : BitVec 32) (i : IVec S16384 32) (r : Fin 16384) (h : (i (ix1 r)).toNat < 2 ^ 31) :
    wrapped (F := Ideal) n i (ix1 r) = i (ix1 r) := by
  unfold wrapped
  rw [select_apply]
  exact Routing.wrap_of_lt _ _ h

/-- The row of the `r`-th one is `r`. -/
theorem places_row (j : IVec S16384 32) (r : Fin 16384) : places (F := Ideal) j (ix2 r (0 : Fin 2)) = BitVec.ofNat 32 r.val := by
  have hr : (BitVec.ofNat 32 r.val).toNat < 2 ^ 31 := by
    rw [WordCmp.toNat_ofNat_of_lt (by have := r.isLt; omega)]; have := r.isLt; omega
  unfold places fn_concatenate
  rw [concatenate_pair_apply_left (s₁ := S16384x1) (s₂ := S16384x1) (1 : Fin S16384x2.rank) _ _
      concatenates_S16384x1_S16384x1_S16384x2_d1 (ix2 r (0 : Fin 2)) rfl (ix2 r (0 : Fin 1))
      (fun a => match a with | ⟨0, _⟩ => rfl | ⟨1, _⟩ => rfl),
    broadcastInDim_apply _ bcast_S16384_S16384x1_0 _ (ix2 r (0 : Fin 1)) (ix1 r) (fun a => match a with | ⟨0, _⟩ => by simp),
    wrapped_apply _ _ _ hr]
  rfl

/-- The column of the `r`-th one is the chosen code, if that is not negative. -/
theorem places_column (j : IVec S16384 32) (r : Fin 16384) (h : (j (ix1 r)).toNat < 2 ^ 31) :
    places (F := Ideal) j (ix2 r (1 : Fin 2)) = j (ix1 r) := by
  unfold places fn_concatenate
  rw [concatenate_pair_apply_right (s₁ := S16384x1) (s₂ := S16384x1) (1 : Fin S16384x2.rank) _ _
      concatenates_S16384x1_S16384x1_S16384x2_d1 (ix2 r (1 : Fin 2)) rfl rfl (ix2 r (0 : Fin 1))
      (fun a => match a with | ⟨0, _⟩ => fun _ => rfl | ⟨1, _⟩ => fun h => absurd rfl h) rfl,
    broadcastInDim_apply _ bcast_S16384_S16384x1_0 _ (ix2 r (0 : Fin 1)) (ix1 r) (fun a => match a with | ⟨0, _⟩ => by simp),
    wrapped_apply _ _ _ h]

/-- Where the `k`-th one begins on an axis: the index word the list has for it there. -/
theorem scatter_start (idx : IVec S16384x2 32) (k : Fin 16384) (q : Fin 2) :
    scatter_S16384x8192_S16384x2_S16384_n_01_01_1.start (ix1 k) idx q = (idx (ix2 k q)).toInt := by
  have hm : q ∈ scatter_S16384x8192_S16384x2_S16384_n_01_01_1.scatterDimsToOperandDims := by
    show q ∈ ([0, 1] : List (Fin 2)); fin_cases q <;> simp
  unfold ScatterDims.start
  rw [dif_pos hm]
  refine congrArg (fun i => (idx i).toInt) (funext fun a => Fin.ext ?_)
  match q, a with
  | ⟨0, _⟩, ⟨0, _⟩ => rfl
  | ⟨0, _⟩, ⟨1, _⟩ => rfl
  | ⟨1, _⟩, ⟨0, _⟩ => rfl
  | ⟨1, _⟩, ⟨1, _⟩ => rfl

/-- A one is a single entry: it has no coordinates of its own. -/
theorem scatter_window (k : Fin 16384) (q : Fin 2) : scatter_S16384x8192_S16384x2_S16384_n_01_01_1.window (ix1 k) q = 0 := by
  unfold ScatterDims.window
  rw [dif_neg fun h => (of_decide_eq_true (List.mem_filter.1 h).2) (by show q ∈ ([0, 1] : List (Fin 2)); fin_cases q <;> simp)]

/-- The `k`-th one lands at `(r, j)` exactly when its two words are `r` and `j`. -/
theorem scatter_lands (idx : IVec S16384x2 32) (k r : Fin 16384) (j : Fin 8192) :
    scatter_S16384x8192_S16384x2_S16384_n_01_01_1.resultIdx? (ix1 k) idx = some (ix2 r j)
      ↔ (idx (ix2 k (0 : Fin 2))).toInt = r.val ∧ (idx (ix2 k (1 : Fin 2))).toInt = j.val := by
  rw [Routing.resultIdx?_ix2, scatter_start, scatter_start, scatter_window, scatter_window]
  simp

/-- The reference's encodings are the encodings. -/
theorem encodings_apply (x : Input) (e : Codebook) (r : Fin 16384) (j : Fin 8192) :
    encodings (F := Ideal) x e (ix2 r j) = encoding (rowOf x r) (codesOf e) j := by
  have hchoice : ∀ k : Fin 16384, choices (F := Ideal) (distances (F := Ideal) x e) (ix1 k)
      = BitVec.ofNat 32 (firstMin (Codes.dist (rowOf x k) (codesOf e))).val := fun k => by
    rw [choices_apply]
    exact congrArg (fun d => BitVec.ofNat 32 (firstMin d).val) (funext fun j => distances_apply x e k j)
  have hlands : ∀ k : Fin 16384, scatter_S16384x8192_S16384x2_S16384_n_01_01_1.resultIdx? (ix1 k)
        (places (F := Ideal) (choices (F := Ideal) (distances (F := Ideal) x e))) = some (ix2 r j)
      ↔ k = r ∧ j = firstMin (Codes.dist (rowOf x k) (codesOf e)) := fun k => by
    have hrow : (BitVec.ofNat 32 k.val).toNat = k.val := WordCmp.toNat_ofNat_of_lt (by have := k.isLt; omega)
    rw [scatter_lands, places_row, places_column _ _ (by rw [hchoice, toNat_column]; have := (firstMin (Codes.dist (rowOf x k) (codesOf e))).isLt; omega),
      hchoice, toInt_column, WordCmp.toInt_eq_toNat_of_lt_half (by rw [hrow]; have := k.isLt; omega), hrow]
    constructor
    · rintro ⟨h1, h2⟩; exact ⟨Fin.ext (by omega), Fin.ext (by omega)⟩
    · rintro ⟨rfl, h2⟩; exact ⟨rfl, by rw [h2]⟩
  unfold encodings encoding
  by_cases h : j = firstMin (Codes.dist (rowOf x r) (codesOf e))
  · rw [if_pos h, Routing.scatter_set_hit _ _ _ _ _ 1 (fun k _ => ?_) (ix1 r) ((hlands r).2 ⟨rfl, h⟩)]
    rw [broadcastInDim_scalar_apply, constant_apply, Ideal.ofBits_one_f32]
  · rw [if_neg h, Routing.scatter_set_miss _ _ _ _ _ (fun k hk => ?_)]
    · rw [broadcastInDim_scalar_apply, constant_apply, Ideal.ofBits_zero_f32]
    · obtain ⟨i, rfl⟩ : ∃ i : Fin 16384, k = ix1 i := ⟨k 0, funext fun a => Fin.ext (by match a with | ⟨0, _⟩ => rfl)⟩
      obtain ⟨rfl, h'⟩ := (hlands i).1 hk
      exact h h'

/-! ## The quantized rows and the loss -/

/-- The reference's quantized rows are the quantized rows. -/
theorem quantized_apply (x : Input) (e : Codebook) (r : Fin 16384) (k : Fin 64) :
    quantized (F := Ideal) x e (ix2 r k) = quantum (rowOf x r) (codesOf e) k := by
  unfold quantized quantum
  rw [dot_quantized, StackMember.dotGeneral_plain_apply]
  refine Finset.sum_congr rfl fun j _ => ?_
  rw [encodings_apply]

/-- The reference's second result, where the input is finite, is the quantized rows. -/
theorem straightThrough_apply (x : Input) (e : Codebook) (r : Fin 16384) (k : Fin 64) (h1 : x (ix2 r k) ≠ (⊤ : EReal)) (h2 : x (ix2 r k) ≠ (⊥ : EReal)) :
    straightThrough (F := Ideal) x e (ix2 r k) = quantum (rowOf x r) (codesOf e) k := by
  unfold straightThrough
  rw [addf_apply, subf_apply, quantized_apply]
  exact add_sub_self_of_finite h1 h2 _

/-- The reference's mean is the sum of all squared differences over their number. -/
theorem meanSquare_apply (x : Input) (e : Codebook) (i : S_.Idx) :
    meanSquare (F := Ideal) x e i
      = Ideal.div (∑ r, ∑ k, error (rowOf x r) (codesOf e) k) (Ideal.ofBits .f32 0x49800000#32) := by
  unfold meanSquare
  show Ideal.div (Host.reduceAdd (F := Ideal) _ _ reducesTo_S16384x64_S_d0_1 h_S_ i) _ = _
  simp only [Host.reduceAdd, Ideal.hostReduceAdd_def]
  rw [Ideal.hostReduceAdd_total reducesTo_S16384x64_S_d0_1 (fun b => b.elim0), constant_apply, constant_apply, Ideal.ofBits_zero_f32, zero_add, sum_idx2]
  refine congrArg (fun s => Ideal.div s (Ideal.ofBits .f32 0x49800000#32)) (Finset.sum_congr rfl fun r _ => Finset.sum_congr rfl fun k _ => ?_)
  rw [mulf_apply, subf_apply, quantized_apply]; rfl

/-- The reference's first result: the mean, and a quarter of it again. -/
theorem loss_apply (x : Input) (e : Codebook) (i : S_.Idx) :
    loss (F := Ideal) x e i
      = Ideal.ofBits .f32 0x3FA00000#32
          * Ideal.div (∑ r, ∑ k, error (rowOf x r) (codesOf e) k) (Ideal.ofBits .f32 0x49800000#32) := by
  unfold loss
  rw [addf_apply, mulf_apply, constant_apply, meanSquare_apply]
  exact (mean_add_quarter _ (Finset.sum_nonneg fun r _ => Finset.sum_nonneg fun k _ => error_nonneg _ _ k)).symm

end Cert.ReferenceIdeal.Run
-- ==== Proof.Equation.lean ====
/-
The kernel's three results are the reference's: the loss, since a sum over blocks of rows is the sum over the rows; the quantized
rows, where the input is finite; and the encodings.
-/
module

public import proofs.«01_k».proof.Pre_finite_input
public import proofs.«01_k».proof.Proof.KernelArrays
public import proofs.«01_k».proof.Proof.ReferenceRead
public import Idealize.ShloMosaic.Lib.ReduceAll

@[expose] public section

set_option maxRecDepth 16384

noncomputable section

/-! ## The precondition -/

namespace Cert.Pre_finite_input

open Idealize.ShloMosaic Idealize.ShloMosaic.ValueIdx

/-- The shapes the precondition's operations relate are related. -/
theorem facts : Facts where
  bcast_S_S16384x64 := by decide
  reducesTo_S16384x64_S_d0_1 := by decide
  h_S_ := by decide

/-- What the precondition asks of each entry: its absolute value is less than infinity. -/
def below [Facts] (x : FVec Ideal S16384x64 .f32) : IVec S16384x64 1 :=
  cmpf (F := Ideal) .olt (Host.absf x) (broadcastInDim S16384x64 ![] Facts.bcast_S_S16384x64 (constant S_ .f32 0x7F800000#32))

/-- Where it is met, the entry is a real number. -/
theorem finite_of_below [Facts] (x : FVec Ideal S16384x64 .f32) (i : S16384x64.Idx) (h : below x i = 1#1) :
    (x i : EReal) ≠ ⊤ ∧ (x i : EReal) ≠ ⊥ := by
  refine Codes.finite_of_abs_lt ?_
  rw [← Codes.ofBits_inf]
  by_contra hn
  have zero : below x i = BitVec.ofBool false := congrArg BitVec.ofBool (decide_eq_false hn)
  exact absurd (h.symm.trans zero) (by decide)

/-- Where the precondition holds, every entry of the input is a real number. -/
theorem finite [Facts] (x : FVec Ideal S16384x64 .f32) (e : FVec Ideal S8192x64 .f32)
    (h : fn (F := Ideal) x e = fun _ => 1#1) (i : S16384x64.Idx) : (x i : EReal) ≠ ⊤ ∧ (x i : EReal) ≠ ⊥ := by
  have all : Host.reduce IntOp.andi (below x) (constantI S_ 1 1#1) Facts.reducesTo_S16384x64_S_d0_1 Facts.h_S_ = fun _ => 1#1 := h
  exact finite_of_below x i (Host.reduce_andi_all (below x) (constantI S_ 1 1#1) Facts.reducesTo_S16384x64_S_d0_1 Facts.h_S_
    (Shape.Idx.first Facts.h_S_) (congrFun all _) i)

end Cert.Pre_finite_input

/-! ## The three equations -/

namespace Cert.Equation

open Idealize.ShloMosaic Idealize.ShloMosaic.TcCoe Idealize.SL.Sem Idealize.ShloMosaic.ValueIdx
open Cert.KernelIdeal Cert.KernelIdeal.Gen Cert.KernelIdeal.Points Cert.KernelIdeal.Arrays

/-- A sum over blocks of `b` numbers each, block by block, is the sum over all of them. -/
theorem sum_blocks (g : ℕ → EReal) (b a : ℕ) :
    ∑ p ∈ Finset.range a, ∑ r ∈ Finset.range b, g (b * p + r) = ∑ n ∈ Finset.range (b * a), g n := by
  induction a with
  | zero => simp
  | succ a ih => rw [Finset.sum_range_succ, ih, Nat.mul_succ, Finset.sum_range_add]

variable (m : (ℓ : Loc nD τ sig) → Buf (Elt Ideal) ℓ) (c : Dev nD)

/-- The sum of the squared errors of row `n` of the input. -/
def rowError (n : ℕ) : EReal := if h : n < 16384 then ∑ k : Fin 64, Codes.error (row m c ⟨n, h⟩) (codes m c) k else 0

theorem rowError_eq (r : Fin 16384) : rowError m c r.val = ∑ k : Fin 64, Codes.error (row m c r) (codes m c) k := dif_pos r.isLt

/-- What a block adds to the running sum is its rows'. -/
theorem totalAt_rows (t : Fin cfg0.N) : totalAt m c t.val = ∑ r ∈ Finset.range 256, rowError m c (256 * t.val + r) := by
  rw [totalAt_eq, Block.total_apply, bookAt_eq, Finset.sum_range]
  refine Finset.sum_congr rfl fun r _ => ?_
  rw [rowOf_rowsAt]
  exact (rowError_eq m c (rowIn t r)).symm

/-- The sum over the blocks is the sum over the rows. -/
theorem total_rows : ∑ p ∈ Finset.range 64, totalAt m c p
    = ∑ r : Fin 16384, ∑ k : Fin 64, Codes.error (row m c r) (codes m c) k := by
  have e : ∀ p ∈ Finset.range 64, totalAt m c p = ∑ r ∈ Finset.range 256, rowError m c (256 * p + r) := fun p hp =>
    totalAt_rows m c ⟨p, lt_of_lt_of_eq (Finset.mem_range.mp hp) (show cfg0.N = 64 from N_0).symm⟩
  rw [Finset.sum_congr rfl e, sum_blocks (rowError m c) 256 64, Finset.sum_range (n := 256 * 64)]
  exact Finset.sum_congr rfl fun r _ => rowError_eq m c r

/-- The kernel's last operations, of a sum. -/
theorem scale (v : EReal) : k0_pay2 (F := Ideal) v
    = Ideal.ofBits .f32 0x3FA00000#32 * Ideal.div v (Ideal.ofBits .f32 0x49800000#32) := rfl

/-- The loss is the reference's. -/
theorem loss_eq : (fun _ => lossOfBlocks m c : FVec Ideal S_ .f32) = ReferenceIdeal.Run.loss (F := Ideal) (input m c) (book m c) := by
  funext i
  refine Eq.trans ?_ (ReferenceIdeal.Run.loss_apply (input m c) (book m c) i).symm
  exact (congrArg (k0_pay2 (F := Ideal)) (total_rows m c)).trans (scale _)

/-- The quantized rows are the reference's, where the input is finite. -/
theorem quantized_eq (h : ∀ i, (input m c i : EReal) ≠ ⊤ ∧ (input m c i : EReal) ≠ ⊥) :
    quantized m c = ReferenceIdeal.Run.straightThrough (F := Ideal) (input m c) (book m c) := by
  funext i
  obtain ⟨r, k, rfl⟩ : ∃ (r : Fin 16384) (k : Fin 64), i = ix2 r k := ⟨i 0, i 1, eq_ix2 i⟩
  exact (ReferenceIdeal.Run.straightThrough_apply (input m c) (book m c) r k (h _).1 (h _).2).symm

/-- The encodings are the reference's. -/
theorem encodings_eq : encodings m c = ReferenceIdeal.Run.encodings (F := Ideal) (input m c) (book m c) := by
  funext i
  obtain ⟨r, j, rfl⟩ : ∃ (r : Fin 16384) (j : Fin 8192), i = ix2 r j := ⟨i 0, i 1, eq_ix2 i⟩
  exact (ReferenceIdeal.Run.encodings_apply (input m c) (book m c) r j).symm

end Cert.Equation
-- ==== Proof.lean ====
/-
The proof of the certificate's claim: the kernel, as printed and as read over the extended reals, and the reference run to an end,
leave their arguments as they were and every semaphore counter at zero; and over the extended reals, of a finite input, the
kernel's three results are the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.ReferenceRun
public import proofs.«01_k».proof.Proof.Equation
public import Idealize.ShloMosaic.Lib.Quiescent

@[expose] public section

noncomputable section

namespace Cert.Proof

open Idealize.ShloMosaic Idealize.ShloMosaic.TcCoe Idealize.SL.Sem

/-- The reference runs to an end, its arguments unchanged; it has no semaphores to leave above zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
          ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0) :=
  (θ_run _ _ _).mono (fun r h => ⟨fun c => (h c).2.2.2, sem_eq_zero_of_no_sems (by decide) r.2⟩) (ReferenceIdeal.Run.run m ρ)

/-- Over the extended reals, of a finite input, the kernel and the reference end with the same loss, the same quantized rows and
    the same encodings. -/
theorem same_results : algebraic_KernelIdeal_ReferenceIdeal_pre_finite_input (hPre_finite_input := Pre_finite_input.facts) := by
  intro m g m' g' hpre hargs
  have hfin : ∀ (c : Dev KernelIdeal.nD) i, (KernelIdeal.Points.input m c i : EReal) ≠ ⊤ ∧ (KernelIdeal.Points.input m c i : EReal) ≠ ⊥ :=
    fun c => @Pre_finite_input.finite Pre_finite_input.facts _ _ (hpre c)
  refine ⟨fun c => ReferenceIdeal.Run.loss (F := Ideal) (KernelIdeal.Points.input m c) (KernelIdeal.Points.book m c),
    fun c => ReferenceIdeal.Run.straightThrough (F := Ideal) (KernelIdeal.Points.input m c) (KernelIdeal.Points.book m c),
    fun c => ReferenceIdeal.Run.encodings (F := Ideal) (KernelIdeal.Points.input m c) (KernelIdeal.Points.book m c), ?_, ?_⟩
  · exact (θ_run _ _ _).mono (fun _ h c => ⟨(h c).1.trans (Equation.loss_eq m c),
      (h c).2.1.trans (Equation.quantized_eq m c (hfin c)), (h c).2.2.1.trans (Equation.encodings_eq m c), (h c).2.2.2⟩)
      (KernelIdeal.Arrays.run m g)
  · refine (θ_run _ _ _).mono (fun _ h c => ?_) (ReferenceIdeal.Run.run m' g')
    obtain ⟨h0, h1⟩ := hargs c
    have hc := h c
    refine ⟨hc.1.trans ?_, hc.2.1.trans ?_, hc.2.2.1.trans ?_, hc.2.2.2⟩
    · exact congrArg₂ (ReferenceIdeal.Run.loss (F := Ideal)) h0 h1
    · exact congrArg₂ (ReferenceIdeal.Run.straightThrough (F := Ideal)) h0 h1
    · exact congrArg₂ (ReferenceIdeal.Run.encodings (F := Ideal)) h0 h1

/-- Everything the certificate claims. -/
theorem claim : Cert.Claim :=
  ⟨Kernel.Gen.facts, KernelIdeal.Gen.facts, ReferenceIdeal.Gen.facts, Pre_finite_input.facts,
    fun m ρ _ => Kernel.Gen.frame m ρ, fun m ρ _ => KernelIdeal.Gen.frame m ρ, fun m ρ _ => KernelIdeal.Gen.frame m ρ,
    fun m ρ _ => reference_frame m ρ, fun m ρ _ => reference_frame m ρ, trivial, same_results⟩

end Cert.Proof

end
